-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ternary [hPre_ternary : Cert.Pre_ternary.Facts] (m : (ℓ : Loc Cert.KernelIdeal.nD Cert.KernelIdeal.τ Cert.KernelIdeal.sig) → Buf (Elt Ideal) ℓ) : Prop :=
  ∀ c : Dev Cert.KernelIdeal.nD,
    (Cert.Pre_ternary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ternary [hPre_ternary : Cert.Pre_ternary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ternary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ternary [hKernelIdeal : Cert.KernelIdeal.Facts] [hPre_ternary : Cert.Pre_ternary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ternary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ternary [hReferenceIdeal : Cert.ReferenceIdeal.Facts] [hPre_ternary : Cert.Pre_ternary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ternary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ternary [hKernelIdeal : Cert.KernelIdeal.Facts] [hReferenceIdeal : Cert.ReferenceIdeal.Facts] [hPre_ternary : Cert.Pre_ternary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ternary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v165) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ternary : Cert.Pre_ternary.Facts),
    quiescent_Kernel (hKernel := hKernel)
    ∧ quiescent_KernelIdeal (hKernelIdeal := hKernelIdeal)
    ∧ quiescent_KernelIdeal_pre_ternary (hKernelIdeal := hKernelIdeal) (hPre_ternary := hPre_ternary)
    ∧ quiescent_ReferenceIdeal (hReferenceIdeal := hReferenceIdeal)
    ∧ quiescent_ReferenceIdeal_pre_ternary (hReferenceIdeal := hReferenceIdeal) (hPre_ternary := hPre_ternary)
    ∧ preserves_Kernel_KernelIdeal
    ∧ algebraic_KernelIdeal_ReferenceIdeal_pre_ternary (hKernelIdeal := hKernelIdeal) (hReferenceIdeal := hReferenceIdeal) (hPre_ternary := hPre_ternary)
-- ==== Pre_ternary.lean ====
abbrev S2x128x8192 : Shape := ⟨3, ![2, 128, 8192]⟩
abbrev S8192 : Shape := ⟨1, ![8192]⟩
abbrev S3584x2048 : Shape := ⟨2, ![3584, 2048]⟩
abbrev S1 : Shape := ⟨1, ![1]⟩
abbrev S_ : Shape := ⟨0, ![]⟩

class Facts : Prop where
  natLt_8_32 : 8 < 32
  bcast_S_S3584x2048 : S_.BroadcastsInDim S3584x2048 (![] : Fin 0 → Fin S3584x2048.rank)
  reducesTo_S3584x2048_S_d0_1 : S3584x2048.ReducesTo [0, 1] S_
  h_S_ : 0 < S_.numel

variable [Facts]

def fn {F : FTy → Type} [FloatOps F] (main_arg0 : FVec F S2x128x8192 .bf16) (main_arg1 : FVec F S8192 .f32) (main_arg2 : IVec S3584x2048 8) (main_arg3 : FVec F S1 .f32) : IVec S_ 1 :=
  let main_v0 : IVec S3584x2048 32 := (extui 32 · natLt_8_32) main_arg2
  let main_c : IVec S_ 32 := constantI S_ 32 1#32
  let main_v1 : IVec S3584x2048 32 := broadcastInDim S3584x2048 ![] bcast_S_S3584x2048 main_c
  let main_v2 : IVec S3584x2048 32 := Host.shrsi main_v0 main_v1
  let main_v3 : IVec S3584x2048 32 := andi main_v0 main_v2
  let main_c_0 : IVec S_ 32 := constantI S_ 32 85#32
  let main_v4 : IVec S3584x2048 32 := broadcastInDim S3584x2048 ![] bcast_S_S3584x2048 main_c_0
  let main_v5 : IVec S3584x2048 32 := andi main_v3 main_v4
  let main_c_1 : IVec S_ 32 := constantI S_ 32 0#32
  let main_v6 : IVec S3584x2048 32 := broadcastInDim S3584x2048 ![] bcast_S_S3584x2048 main_c_1
  let main_v7 : IVec S3584x2048 1 := cmpi .eq main_v5 main_v6
  let main_c_2 : IVec S_ 1 := constantI S_ 1 1#1
  let main_v8 : IVec S_ 1 := (fun x v => Host.reduce IntOp.andi x v reducesTo_S3584x2048_S_d0_1 h_S_) main_v7 main_c_2
  main_v8
-- ==== Kernel.lean ====
abbrev S2x128x8192 : Shape := ⟨3, ![2, 128, 8192]⟩
abbrev S8192 : Shape := ⟨1, ![8192]⟩
abbrev S3584x2048 : Shape := ⟨2, ![3584, 2048]⟩
abbrev S1 : Shape := ⟨1, ![1]⟩
abbrev S256x8192 : Shape := ⟨2, ![256, 8192]⟩
abbrev S32x256 : Shape := ⟨2, ![32, 256]⟩
abbrev S256x3584 : Shape := ⟨2, ![256, 3584]⟩
abbrev S2x128 : Shape := ⟨2, ![2, 128]⟩
abbrev S256x256 : Shape := ⟨2, ![256, 256]⟩
abbrev S3x32x256 : Shape := ⟨3, ![3, 32, 256]⟩
abbrev S32x256x256 : Shape := ⟨3, ![32, 256, 256]⟩
abbrev S2x256x128 : Shape := ⟨3, ![2, 256, 128]⟩
abbrev S1x32x256 : Shape := ⟨3, ![1, 32, 256]⟩
abbrev S256x128 : Shape := ⟨2, ![256, 128]⟩
abbrev S1x1x256 : Shape := ⟨3, ![1, 1, 256]⟩
abbrev S1x256 : Shape := ⟨2, ![1, 256]⟩
abbrev S1x256x256 : Shape := ⟨3, ![1, 256, 256]⟩
abbrev S128x256 : Shape := ⟨2, ![128, 256]⟩
abbrev S256 : Shape := ⟨1, ![256]⟩
abbrev S8x256 : Shape := ⟨2, ![8, 256]⟩
abbrev S1x8x128 : Shape := ⟨3, ![1, 8, 128]⟩
abbrev S8x128 : Shape := ⟨2, ![8, 128]⟩
abbrev S1x128 : Shape := ⟨2, ![1, 128]⟩
abbrev S1x64x256 : Shape := ⟨3, ![1, 64, 256]⟩
abbrev S64x256 : Shape := ⟨2, ![64, 256]⟩
abbrev S64x128 : Shape := ⟨2, ![64, 128]⟩
abbrev S1x64x128 : Shape := ⟨3, ![1, 64, 128]⟩
abbrev S1x256x128 : Shape := ⟨3, ![1, 256, 128]⟩
abbrev S512x256 : Shape := ⟨2, ![512, 256]⟩
abbrev S256x512 : Shape := ⟨2, ![256, 512]⟩

abbrev nBuf : Space → Nat
  | .hbm => 9
  | .vmem => 11
  | .smem => 1
  | _ => 0

abbrev bufTy : (tb : Table) → Fin (tcTables nBuf tb) → BufTy
  | .hbm, ⟨0, _⟩ => ⟨S2x128x8192, .bf16⟩
  | .hbm, ⟨1, _⟩ => ⟨S8192, .f32⟩
  | .hbm, ⟨2, _⟩ => ⟨S3584x2048, .i8⟩
  | .hbm, ⟨3, _⟩ => ⟨S1, .f32⟩
  | .hbm, ⟨4, _⟩ => ⟨S256x8192, .bf16⟩
  | .hbm, ⟨5, _⟩ => ⟨S32x256, .f32⟩
  | .hbm, ⟨6, _⟩ => ⟨S256x3584, .bf16⟩
  | .hbm, ⟨7, _⟩ => ⟨S256x8192, .i8⟩
  | .hbm, ⟨8, _⟩ => ⟨S2x128, .f32⟩
  | .local _ .vmem, ⟨0, _⟩ => ⟨S256x8192, .bf16⟩
  | .local _ .vmem, ⟨1, _⟩ => ⟨S32x256, .f32⟩
  | .local _ .vmem, ⟨2, _⟩ => ⟨S3584x2048, .i8⟩
  | .local _ .vmem, ⟨3, _⟩ => ⟨S256x3584, .bf16⟩
  | .local _ .vmem, ⟨4, _⟩ => ⟨S256x8192, .i8⟩
  | .local _ .vmem, ⟨5, _⟩ => ⟨S2x128, .f32⟩
  | .local _ .vmem, ⟨6, _⟩ => ⟨S256x256, .bf16⟩
  | .local _ .vmem, ⟨7, _⟩ => ⟨S3x32x256, .f32⟩
  | .local _ .vmem, ⟨8, _⟩ => ⟨S32x256x256, .f32⟩
  | .local _ .vmem, ⟨9, _⟩ => ⟨S32x256x256, .fp8e4m3⟩
  | .local _ .vmem, ⟨10, _⟩ => ⟨S2x256x128, .f32⟩
  | .local _ .smem, ⟨0, _⟩ => ⟨S1, .f32⟩
  | _, _ => ⟨S2x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v41 : BitVec 32 := Scalar.addi c0_i32 c32_i32
  let c1_i32_11 : BitVec 32 := 1#32
  ⟨c0_i32, v41, c1_i32_11⟩
def k0_mult1 (k0_t1 : Fin k0_t1_loop.trips) : BitVec 32 :=
  let c0_i32 : BitVec 32 := 0#32
  let c1_i32_11 : BitVec 32 := 1#32
  let arg12 : BitVec 32 := Scf.iv c0_i32 c1_i32_11 k0_t1
  let c256_i32 : BitVec 32 := 256#32
  let v77 : BitVec 32 := Scalar.muli arg12 c256_i32
  v77
def k0_off1 (k0_t1 : Fin k0_t1_loop.trips) : Fin 2 → Nat :=
  let c0_39 : Index := 0#32
  let c0_i32 : BitVec 32 := 0#32
  let c1_i32_11 : BitVec 32 := 1#32
  let arg12 : BitVec 32 := Scf.iv c0_i32 c1_i32_11 k0_t1
  let c256_i32 : BitVec 32 := 256#32
  let v77 : BitVec 32 := Scalar.muli arg12 c256_i32
  let v78 : BitVec 32 := v77
  let v79 : Index := Scalar.indexCast v78
  ![0, v79.toNat]
def k0_off2 (k0_t1 : Fin k0_t1_loop.trips) : Fin 3 → Nat :=
  let c2_42 : Index := 2#32
  let c0_i32 : BitVec 32 := 0#32
  let c1_i32_11 : BitVec 32 := 1#32
  let arg12 : BitVec 32 := Scf.iv c0_i32 c1_i32_11 k0_t1
  let v83 : Index := Scalar.indexCast arg12
  let c0_43 : Index := 0#32
  ![2, v83.toNat, 0]
def k0_off3 (k0_t1 : Fin k0_t1_loop.trips) : Fin 3 → Nat :=
  let c1_45 : Index := 1#32
  let c0_i32 : BitVec 32 := 0#32
  let c1_i32_11 : BitVec 32 := 1#32
  let arg12 : BitVec 32 := Scf.iv c0_i32 c1_i32_11 k0_t1
  let v91 : Index := Scalar.indexCast arg12
  let c0_46 : Index := 0#32
  ![1, v91.toNat, 0]
def k0_off4 (k0_t1 : Fin k0_t1_loop.trips) : Fin 3 → Nat :=
  let c0_48 : Index := 0#32
  let c0_i32 : BitVec 32 := 0#32
  let c1_i32_11 : BitVec 32 := 1#32
  let arg12 : BitVec 32 := Scf.iv c0_i32 c1_i32_11 k0_t1
  let v100 : Index := Scalar.indexCast arg12
  let c0_49 : Index := 0#32
  ![0, v100.toNat, 0]
def k0_off5 (k0_t1 : Fin k0_t1_loop.trips) : Fin 3 → Nat :=
  let c0_i32 : BitVec 32 := 0#32
  let c1_i32_11 : BitVec 32 := 1#32
  let arg12 : BitVec 32 := Scf.iv c0_i32 c1_i32_11 k0_t1
  let v109 : Index := Scalar.indexCast arg12
  let c0_51 : Index := 0#32
  let c0_52 : Index := 0#32
  ![v109.toNat, 0, 0]
@[reducible] def k0_t2_loop : Scf.Loop 32 :=
  let c0_i32_17 : BitVec 32 := 0#32
  let c32_i32_18 : BitVec 32 := 32#32
  let v52 : BitVec 32 := Scalar.addi c0_i32_17 c32_i32_18
  let c1_i32_19 : BitVec 32 := 1#32
  ⟨c0_i32_17, v52, c1_i32_19⟩
def k0_mult2 (k0_t2 : Fin k0_t2_loop.trips) : BitVec 32 :=
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  v77
def k0_off6 (k0_t2 : Fin k0_t2_loop.trips) : Fin 3 → Nat :=
  let c0_40 : Index := 0#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v79 : Index := Scalar.indexCast v78
  let c0_41 : Index := 0#32
  ![0, v79.toNat, 0]
def k0_off7 (k0_t2 : Fin k0_t2_loop.trips) : Fin 3 → Nat :=
  let c1_42 : Index := 1#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v82 : Index := Scalar.indexCast v78
  let c0_43 : Index := 0#32
  ![1, v82.toNat, 0]
def k0_off8 (k0_t2 : Fin k0_t2_loop.trips) : Fin 3 → Nat :=
  let c2_44 : Index := 2#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v85 : Index := Scalar.indexCast v78
  let c0_45 : Index := 0#32
  ![2, v85.toNat, 0]
def k0_off9 (k0_t2 : Fin k0_t2_loop.trips) : Fin 3 → Nat :=
  let c3 : Index := 3#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v88 : Index := Scalar.indexCast v78
  let c0_46 : Index := 0#32
  ![3, v88.toNat, 0]
def k0_off10 (k0_t2 : Fin k0_t2_loop.trips) : Fin 3 → Nat :=
  let c4 : Index := 4#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v91 : Index := Scalar.indexCast v78
  let c0_47 : Index := 0#32
  ![4, v91.toNat, 0]
def k0_off11 (k0_t2 : Fin k0_t2_loop.trips) : Fin 3 → Nat :=
  let c5 : Index := 5#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v94 : Index := Scalar.indexCast v78
  let c0_48 : Index := 0#32
  ![5, v94.toNat, 0]
def k0_off12 (k0_t2 : Fin k0_t2_loop.trips) : Fin 3 → Nat :=
  let c6 : Index := 6#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v97 : Index := Scalar.indexCast v78
  let c0_49 : Index := 0#32
  ![6, v97.toNat, 0]
def k0_off13 (k0_t2 : Fin k0_t2_loop.trips) : Fin 3 → Nat :=
  let c7 : Index := 7#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v100 : Index := Scalar.indexCast v78
  let c0_50 : Index := 0#32
  ![7, v100.toNat, 0]
def k0_off14 (k0_t2 : Fin k0_t2_loop.trips) : Fin 3 → Nat :=
  let c8 : Index := 8#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v103 : Index := Scalar.indexCast v78
  let c0_51 : Index := 0#32
  ![8, v103.toNat, 0]
def k0_off15 (k0_t2 : Fin k0_t2_loop.trips) : Fin 3 → Nat :=
  let c9 : Index := 9#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v106 : Index := Scalar.indexCast v78
  let c0_52 : Index := 0#32
  ![9, v106.toNat, 0]
def k0_off16 (k0_t2 : Fin k0_t2_loop.trips) : Fin 3 → Nat :=
  let c10 : Index := 10#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v109 : Index := Scalar.indexCast v78
  let c0_53 : Index := 0#32
  ![10, v109.toNat, 0]
def k0_off17 (k0_t2 : Fin k0_t2_loop.trips) : Fin 3 → Nat :=
  let c11 : Index := 11#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v112 : Index := Scalar.indexCast v78
  let c0_54 : Index := 0#32
  ![11, v112.toNat, 0]
def k0_off18 (k0_t2 : Fin k0_t2_loop.trips) : Fin 3 → Nat :=
  let c12 : Index := 12#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v115 : Index := Scalar.indexCast v78
  let c0_55 : Index := 0#32
  ![12, v115.toNat, 0]
def k0_off19 (k0_t2 : Fin k0_t2_loop.trips) : Fin 3 → Nat :=
  let c13 : Index := 13#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v118 : Index := Scalar.indexCast v78
  let c0_56 : Index := 0#32
  ![13, v118.toNat, 0]
def k0_off20 (k0_t2 : Fin k0_t2_loop.trips) : Fin 3 → Nat :=
  let c14 : Index := 14#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v121 : Index := Scalar.indexCast v78
  let c0_57 : Index := 0#32
  ![14, v121.toNat, 0]
def k0_off21 (k0_t2 : Fin k0_t2_loop.trips) : Fin 3 → Nat :=
  let c15 : Index := 15#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v124 : Index := Scalar.indexCast v78
  let c0_58 : Index := 0#32
  ![15, v124.toNat, 0]
def k0_off22 (k0_t2 : Fin k0_t2_loop.trips) : Fin 3 → Nat :=
  let c16 : Index := 16#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v127 : Index := Scalar.indexCast v78
  let c0_59 : Index := 0#32
  ![16, v127.toNat, 0]
def k0_off23 (k0_t2 : Fin k0_t2_loop.trips) : Fin 3 → Nat :=
  let c17 : Index := 17#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v130 : Index := Scalar.indexCast v78
  let c0_60 : Index := 0#32
  ![17, v130.toNat, 0]
def k0_off24 (k0_t2 : Fin k0_t2_loop.trips) : Fin 3 → Nat :=
  let c18 : Index := 18#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v133 : Index := Scalar.indexCast v78
  let c0_61 : Index := 0#32
  ![18, v133.toNat, 0]
def k0_off25 (k0_t2 : Fin k0_t2_loop.trips) : Fin 3 → Nat :=
  let c19 : Index := 19#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v136 : Index := Scalar.indexCast v78
  let c0_62 : Index := 0#32
  ![19, v136.toNat, 0]
def k0_off26 (k0_t2 : Fin k0_t2_loop.trips) : Fin 3 → Nat :=
  let c20 : Index := 20#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v139 : Index := Scalar.indexCast v78
  let c0_63 : Index := 0#32
  ![20, v139.toNat, 0]
def k0_off27 (k0_t2 : Fin k0_t2_loop.trips) : Fin 3 → Nat :=
  let c21 : Index := 21#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v142 : Index := Scalar.indexCast v78
  let c0_64 : Index := 0#32
  ![21, v142.toNat, 0]
def k0_off28 (k0_t2 : Fin k0_t2_loop.trips) : Fin 3 → Nat :=
  let c22 : Index := 22#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v145 : Index := Scalar.indexCast v78
  let c0_65 : Index := 0#32
  ![22, v145.toNat, 0]
def k0_off29 (k0_t2 : Fin k0_t2_loop.trips) : Fin 3 → Nat :=
  let c23 : Index := 23#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v148 : Index := Scalar.indexCast v78
  let c0_66 : Index := 0#32
  ![23, v148.toNat, 0]
def k0_off30 (k0_t2 : Fin k0_t2_loop.trips) : Fin 3 → Nat :=
  let c24 : Index := 24#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v151 : Index := Scalar.indexCast v78
  let c0_67 : Index := 0#32
  ![24, v151.toNat, 0]
def k0_off31 (k0_t2 : Fin k0_t2_loop.trips) : Fin 3 → Nat :=
  let c25 : Index := 25#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v154 : Index := Scalar.indexCast v78
  let c0_68 : Index := 0#32
  ![25, v154.toNat, 0]
def k0_off32 (k0_t2 : Fin k0_t2_loop.trips) : Fin 3 → Nat :=
  let c26 : Index := 26#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v157 : Index := Scalar.indexCast v78
  let c0_69 : Index := 0#32
  ![26, v157.toNat, 0]
def k0_off33 (k0_t2 : Fin k0_t2_loop.trips) : Fin 3 → Nat :=
  let c27 : Index := 27#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v160 : Index := Scalar.indexCast v78
  let c0_70 : Index := 0#32
  ![27, v160.toNat, 0]
def k0_off34 (k0_t2 : Fin k0_t2_loop.trips) : Fin 3 → Nat :=
  let c28 : Index := 28#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v163 : Index := Scalar.indexCast v78
  let c0_71 : Index := 0#32
  ![28, v163.toNat, 0]
def k0_off35 (k0_t2 : Fin k0_t2_loop.trips) : Fin 3 → Nat :=
  let c29 : Index := 29#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v166 : Index := Scalar.indexCast v78
  let c0_72 : Index := 0#32
  ![29, v166.toNat, 0]
def k0_off36 (k0_t2 : Fin k0_t2_loop.trips) : Fin 3 → Nat :=
  let c30 : Index := 30#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v169 : Index := Scalar.indexCast v78
  let c0_73 : Index := 0#32
  ![30, v169.toNat, 0]
def k0_off37 (k0_t2 : Fin k0_t2_loop.trips) : Fin 3 → Nat :=
  let c31 : Index := 31#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v172 : Index := Scalar.indexCast v78
  let c0_74 : Index := 0#32
  ![31, v172.toNat, 0]
def k0_off38 (k0_t2 : Fin k0_t2_loop.trips) : Fin 3 → Nat :=
  let c0_139 : Index := 0#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v526 : Index := Scalar.indexCast v78
  let c128 : Index := 128#32
  ![0, v526.toNat, 128]
def k0_off39 (k0_t2 : Fin k0_t2_loop.trips) : Fin 3 → Nat :=
  let c1_140 : Index := 1#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v529 : Index := Scalar.indexCast v78
  let c128_141 : Index := 128#32
  ![1, v529.toNat, 128]
def k0_off40 (k0_t2 : Fin k0_t2_loop.trips) : Fin 3 → Nat :=
  let c2_142 : Index := 2#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v532 : Index := Scalar.indexCast v78
  let c128_143 : Index := 128#32
  ![2, v532.toNat, 128]
def k0_off41 (k0_t2 : Fin k0_t2_loop.trips) : Fin 3 → Nat :=
  let c3_144 : Index := 3#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v535 : Index := Scalar.indexCast v78
  let c128_145 : Index := 128#32
  ![3, v535.toNat, 128]
def k0_off42 (k0_t2 : Fin k0_t2_loop.trips) : Fin 3 → Nat :=
  let c4_146 : Index := 4#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v538 : Index := Scalar.indexCast v78
  let c128_147 : Index := 128#32
  ![4, v538.toNat, 128]
def k0_off43 (k0_t2 : Fin k0_t2_loop.trips) : Fin 3 → Nat :=
  let c5_148 : Index := 5#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v541 : Index := Scalar.indexCast v78
  let c128_149 : Index := 128#32
  ![5, v541.toNat, 128]
def k0_off44 (k0_t2 : Fin k0_t2_loop.trips) : Fin 3 → Nat :=
  let c6_150 : Index := 6#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v544 : Index := Scalar.indexCast v78
  let c128_151 : Index := 128#32
  ![6, v544.toNat, 128]
def k0_off45 (k0_t2 : Fin k0_t2_loop.trips) : Fin 3 → Nat :=
  let c7_152 : Index := 7#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v547 : Index := Scalar.indexCast v78
  let c128_153 : Index := 128#32
  ![7, v547.toNat, 128]
def k0_off46 (k0_t2 : Fin k0_t2_loop.trips) : Fin 3 → Nat :=
  let c8_154 : Index := 8#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v550 : Index := Scalar.indexCast v78
  let c128_155 : Index := 128#32
  ![8, v550.toNat, 128]
def k0_off47 (k0_t2 : Fin k0_t2_loop.trips) : Fin 3 → Nat :=
  let c9_156 : Index := 9#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v553 : Index := Scalar.indexCast v78
  let c128_157 : Index := 128#32
  ![9, v553.toNat, 128]
def k0_off48 (k0_t2 : Fin k0_t2_loop.trips) : Fin 3 → Nat :=
  let c10_158 : Index := 10#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v556 : Index := Scalar.indexCast v78
  let c128_159 : Index := 128#32
  ![10, v556.toNat, 128]
def k0_off49 (k0_t2 : Fin k0_t2_loop.trips) : Fin 3 → Nat :=
  let c11_160 : Index := 11#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v559 : Index := Scalar.indexCast v78
  let c128_161 : Index := 128#32
  ![11, v559.toNat, 128]
def k0_off50 (k0_t2 : Fin k0_t2_loop.trips) : Fin 3 → Nat :=
  let c12_162 : Index := 12#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v562 : Index := Scalar.indexCast v78
  let c128_163 : Index := 128#32
  ![12, v562.toNat, 128]
def k0_off51 (k0_t2 : Fin k0_t2_loop.trips) : Fin 3 → Nat :=
  let c13_164 : Index := 13#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v565 : Index := Scalar.indexCast v78
  let c128_165 : Index := 128#32
  ![13, v565.toNat, 128]
def k0_off52 (k0_t2 : Fin k0_t2_loop.trips) : Fin 3 → Nat :=
  let c14_166 : Index := 14#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v568 : Index := Scalar.indexCast v78
  let c128_167 : Index := 128#32
  ![14, v568.toNat, 128]
def k0_off53 (k0_t2 : Fin k0_t2_loop.trips) : Fin 3 → Nat :=
  let c15_168 : Index := 15#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v571 : Index := Scalar.indexCast v78
  let c128_169 : Index := 128#32
  ![15, v571.toNat, 128]
def k0_off54 (k0_t2 : Fin k0_t2_loop.trips) : Fin 3 → Nat :=
  let c16_170 : Index := 16#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v574 : Index := Scalar.indexCast v78
  let c128_171 : Index := 128#32
  ![16, v574.toNat, 128]
def k0_off55 (k0_t2 : Fin k0_t2_loop.trips) : Fin 3 → Nat :=
  let c17_172 : Index := 17#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v577 : Index := Scalar.indexCast v78
  let c128_173 : Index := 128#32
  ![17, v577.toNat, 128]
def k0_off56 (k0_t2 : Fin k0_t2_loop.trips) : Fin 3 → Nat :=
  let c18_174 : Index := 18#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v580 : Index := Scalar.indexCast v78
  let c128_175 : Index := 128#32
  ![18, v580.toNat, 128]
def k0_off57 (k0_t2 : Fin k0_t2_loop.trips) : Fin 3 → Nat :=
  let c19_176 : Index := 19#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v583 : Index := Scalar.indexCast v78
  let c128_177 : Index := 128#32
  ![19, v583.toNat, 128]
def k0_off58 (k0_t2 : Fin k0_t2_loop.trips) : Fin 3 → Nat :=
  let c20_178 : Index := 20#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v586 : Index := Scalar.indexCast v78
  let c128_179 : Index := 128#32
  ![20, v586.toNat, 128]
def k0_off59 (k0_t2 : Fin k0_t2_loop.trips) : Fin 3 → Nat :=
  let c21_180 : Index := 21#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v589 : Index := Scalar.indexCast v78
  let c128_181 : Index := 128#32
  ![21, v589.toNat, 128]
def k0_off60 (k0_t2 : Fin k0_t2_loop.trips) : Fin 3 → Nat :=
  let c22_182 : Index := 22#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v592 : Index := Scalar.indexCast v78
  let c128_183 : Index := 128#32
  ![22, v592.toNat, 128]
def k0_off61 (k0_t2 : Fin k0_t2_loop.trips) : Fin 3 → Nat :=
  let c23_184 : Index := 23#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v595 : Index := Scalar.indexCast v78
  let c128_185 : Index := 128#32
  ![23, v595.toNat, 128]
def k0_off62 (k0_t2 : Fin k0_t2_loop.trips) : Fin 3 → Nat :=
  let c24_186 : Index := 24#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v598 : Index := Scalar.indexCast v78
  let c128_187 : Index := 128#32
  ![24, v598.toNat, 128]
def k0_off63 (k0_t2 : Fin k0_t2_loop.trips) : Fin 3 → Nat :=
  let c25_188 : Index := 25#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v601 : Index := Scalar.indexCast v78
  let c128_189 : Index := 128#32
  ![25, v601.toNat, 128]
def k0_off64 (k0_t2 : Fin k0_t2_loop.trips) : Fin 3 → Nat :=
  let c26_190 : Index := 26#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v604 : Index := Scalar.indexCast v78
  let c128_191 : Index := 128#32
  ![26, v604.toNat, 128]
def k0_off65 (k0_t2 : Fin k0_t2_loop.trips) : Fin 3 → Nat :=
  let c27_192 : Index := 27#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v607 : Index := Scalar.indexCast v78
  let c128_193 : Index := 128#32
  ![27, v607.toNat, 128]
def k0_off66 (k0_t2 : Fin k0_t2_loop.trips) : Fin 3 → Nat :=
  let c28_194 : Index := 28#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v610 : Index := Scalar.indexCast v78
  let c128_195 : Index := 128#32
  ![28, v610.toNat, 128]
def k0_off67 (k0_t2 : Fin k0_t2_loop.trips) : Fin 3 → Nat :=
  let c29_196 : Index := 29#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v613 : Index := Scalar.indexCast v78
  let c128_197 : Index := 128#32
  ![29, v613.toNat, 128]
def k0_off68 (k0_t2 : Fin k0_t2_loop.trips) : Fin 3 → Nat :=
  let c30_198 : Index := 30#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v616 : Index := Scalar.indexCast v78
  let c128_199 : Index := 128#32
  ![30, v616.toNat, 128]
def k0_off69 (k0_t2 : Fin k0_t2_loop.trips) : Fin 3 → Nat :=
  let c31_200 : Index := 31#32
  let c0_i32_17 : BitVec 32 := 0#32
  let c1_i32_19 : BitVec 32 := 1#32
  let arg12 : BitVec 32 := Scf.iv c0_i32_17 c1_i32_19 k0_t2
  let c8_i32_39 : BitVec 32 := 8#32
  let v77 : BitVec 32 := Scalar.muli arg12 c8_i32_39
  let v78 : BitVec 32 := v77
  let v619 : Index := Scalar.indexCast v78
  let c128_201 : Index := 128#32
  ![31, v619.toNat, 128]
@[reducible] def k0_t3_loop : Scf.Loop 32 :=
  let c0_i32_33 : BitVec 32 := 0#32
  let c8_i32 : BitVec 32 := 8#32
  let v75 : BitVec 32 := Scalar.addi c0_i32_33 c8_i32
  let c1_i32_34 : BitVec 32 := 1#32
  ⟨c0_i32_33, v75, c1_i32_34⟩
def k0_off70 (k0_t3 : Fin k0_t3_loop.trips) (c0_i32_40 : BitVec 32) : Fin 3 → Nat :=
  let c4_i32_39 : BitVec 32 := 4#32
  let c0_i32_33 : BitVec 32 := 0#32
  let c1_i32_34 : BitVec 32 := 1#32
  let arg12 : BitVec 32 := Scf.iv c0_i32_33 c1_i32_34 k0_t3
  let v77 : BitVec 32 := Scalar.muli c4_i32_39 arg12
  let v78 : BitVec 32 := Scalar.addi v77 c0_i32_40
  let v79 : Index := Scalar.indexCast v78
  let c0_41 : Index := 0#32
  let c0_42 : Index := 0#32
  ![v79.toNat, 0, 0]
def k0_off71 (k0_t3 : Fin k0_t3_loop.trips) (c0_i32_46 : BitVec 32) : Fin 3 → Nat :=
  let c0_i32_33 : BitVec 32 := 0#32
  let c1_i32_34 : BitVec 32 := 1#32
  let arg12 : BitVec 32 := Scf.iv c0_i32_33 c1_i32_34 k0_t3
  let c4_i32_45 : BitVec 32 := 4#32
  let v90 : BitVec 32 := Scalar.muli arg12 c4_i32_45
  let v91 : BitVec 32 := Scalar.addi v90 c0_i32_46
  let v92 : Index := Scalar.indexCast v91
  let c0_47 : Index := 0#32
  let c0_48 : Index := 0#32
  ![v92.toNat, 0, 0]
def k0_off72 (k0_t3 : Fin k0_t3_loop.trips) (c0_i32_56 : BitVec 32) : Fin 3 → Nat :=
  let c4_i32_55 : BitVec 32 := 4#32
  let c0_i32_33 : BitVec 32 := 0#32
  let c1_i32_34 : BitVec 32 := 1#32
  let arg12 : BitVec 32 := Scf.iv c0_i32_33 c1_i32_34 k0_t3
  let v104 : BitVec 32 := Scalar.muli c4_i32_55 arg12
  let v105 : BitVec 32 := Scalar.addi v104 c0_i32_56
  let v106 : Index := Scalar.indexCast v105
  let c64 : Index := 64#32
  let c0_57 : Index := 0#32
  ![v106.toNat, 64, 0]
def k0_off73 (k0_t3 : Fin k0_t3_loop.trips) (c0_i32_71 : BitVec 32) : Fin 3 → Nat :=
  let c4_i32_70 : BitVec 32 := 4#32
  let c0_i32_33 : BitVec 32 := 0#32
  let c1_i32_34 : BitVec 32 := 1#32
  let arg12 : BitVec 32 := Scf.iv c0_i32_33 c1_i32_34 k0_t3
  let v131 : BitVec 32 := Scalar.muli c4_i32_70 arg12
  let v132 : BitVec 32 := Scalar.addi v131 c0_i32_71
  let v133 : Index := Scalar.indexCast v132
  let c128 : Index := 128#32
  let c0_72 : Index := 0#32
  ![v133.toNat, 128, 0]
def k0_off74 (k0_t3 : Fin k0_t3_loop.trips) (c0_i32_86 : BitVec 32) : Fin 3 → Nat :=
  let c4_i32_85 : BitVec 32 := 4#32
  let c0_i32_33 : BitVec 32 := 0#32
  let c1_i32_34 : BitVec 32 := 1#32
  let arg12 : BitVec 32 := Scf.iv c0_i32_33 c1_i32_34 k0_t3
  let v158 : BitVec 32 := Scalar.muli c4_i32_85 arg12
  let v159 : BitVec 32 := Scalar.addi v158 c0_i32_86
  let v160 : Index := Scalar.indexCast v159
  let c192 : Index := 192#32
  let c0_87 : Index := 0#32
  ![v160.toNat, 192, 0]
def k0_mult3 (k0_t3 : Fin k0_t3_loop.trips) : BitVec 32 :=
  let c4_i32_98 : BitVec 32 := 4#32
  let c0_i32_33 : BitVec 32 := 0#32
  let c1_i32_34 : BitVec 32 := 1#32
  let arg12 : BitVec 32 := Scf.iv c0_i32_33 c1_i32_34 k0_t3
  let v185 : BitVec 32 := Scalar.muli c4_i32_98 arg12
  let c0_i32_99 : BitVec 32 := 0#32
  let v186 : BitVec 32 := Scalar.addi v185 c0_i32_99
  let c256_i32 : BitVec 32 := 256#32
  let v187 : BitVec 32 := Scalar.muli v186 c256_i32
  v187
def k0_off75 (k0_t3 : Fin k0_t3_loop.trips) (c0_i32_99 : BitVec 32) : Fin 2 → Nat :=
  let c0_103 : Index := 0#32
  let c4_i32_98 : BitVec 32 := 4#32
  let c0_i32_33 : BitVec 32 := 0#32
  let c1_i32_34 : BitVec 32 := 1#32
  let arg12 : BitVec 32 := Scf.iv c0_i32_33 c1_i32_34 k0_t3
  let v185 : BitVec 32 := Scalar.muli c4_i32_98 arg12
  let v186 : BitVec 32 := Scalar.addi v185 c0_i32_99
  let c256_i32 : BitVec 32 := 256#32
  let v187 : BitVec 32 := Scalar.muli v186 c256_i32
  let v188 : BitVec 32 := v187
  let v193 : Index := Scalar.indexCast v188
  ![0, v193.toNat]
def k0_mult4 (k0_t3 : Fin k0_t3_loop.trips) : BitVec 32 :=
  let c4_i32_104 : BitVec 32 := 4#32
  let c0_i32_33 : BitVec 32 := 0#32
  let c1_i32_34 : BitVec 32 := 1#32
  let arg12 : BitVec 32 := Scf.iv c0_i32_33 c1_i32_34 k0_t3
  let v195 : BitVec 32 := Scalar.muli c4_i32_104 arg12
  let c0_i32_105 : BitVec 32 := 0#32
  let v196 : BitVec 32 := Scalar.addi v195 c0_i32_105
  let c256_i32_106 : BitVec 32 := 256#32
  let v197 : BitVec 32 := Scalar.muli v196 c256_i32_106
  v197
def k0_off76 (k0_t3 : Fin k0_t3_loop.trips) (c0_i32_105 : BitVec 32) : Fin 2 → Nat :=
  let c128_110 : Index := 128#32
  let c4_i32_104 : BitVec 32 := 4#32
  let c0_i32_33 : BitVec 32 := 0#32
  let c1_i32_34 : BitVec 32 := 1#32
  let arg12 : BitVec 32 := Scf.iv c0_i32_33 c1_i32_34 k0_t3
  let v195 : BitVec 32 := Scalar.muli c4_i32_104 arg12
  let v196 : BitVec 32 := Scalar.addi v195 c0_i32_105
  let c256_i32_106 : BitVec 32 := 256#32
  let v197 : BitVec 32 := Scalar.muli v196 c256_i32_106
  let v198 : BitVec 32 := v197
  let v203 : Index := Scalar.indexCast v198
  ![128, v203.toNat]
def k0_off77 (k0_t3 : Fin k0_t3_loop.trips) (c0_i32_118 : BitVec 32) : Fin 3 → Nat :=
  let c0_i32_33 : BitVec 32 := 0#32
  let c1_i32_34 : BitVec 32 := 1#32
  let arg12 : BitVec 32 := Scf.iv c0_i32_33 c1_i32_34 k0_t3
  let c4_i32_117 : BitVec 32 := 4#32
  let v218 : BitVec 32 := Scalar.muli arg12 c4_i32_117
  let v219 : BitVec 32 := Scalar.addi v218 c0_i32_118
  let v220 : Index := Scalar.indexCast v219
  let c64_119 : Index := 64#32
  let c0_120 : Index := 0#32
  ![v220.toNat, 64, 0]
def k0_mult5 (k0_t3 : Fin k0_t3_loop.trips) : BitVec 32 :=
  let c4_i32_175 : BitVec 32 := 4#32
  let c0_i32_33 : BitVec 32 := 0#32
  let c1_i32_34 : BitVec 32 := 1#32
  let arg12 : BitVec 32 := Scf.iv c0_i32_33 c1_i32_34 k0_t3
  let v313 : BitVec 32 := Scalar.muli c4_i32_175 arg12
  let c1_i32_176 : BitVec 32 := 1#32
  let v314 : BitVec 32 := Scalar.addi v313 c1_i32_176
  let c256_i32_177 : BitVec 32 := 256#32
  let v315 : BitVec 32 := Scalar.muli v314 c256_i32_177
  v315
def k0_mult6 (k0_t3 : Fin k0_t3_loop.trips) : BitVec 32 :=
  let c4_i32_182 : BitVec 32 := 4#32
  let c0_i32_33 : BitVec 32 := 0#32
  let c1_i32_34 : BitVec 32 := 1#32
  let arg12 : BitVec 32 := Scf.iv c0_i32_33 c1_i32_34 k0_t3
  let v323 : BitVec 32 := Scalar.muli c4_i32_182 arg12
  let c1_i32_183 : BitVec 32 := 1#32
  let v324 : BitVec 32 := Scalar.addi v323 c1_i32_183
  let c256_i32_184 : BitVec 32 := 256#32
  let v325 : BitVec 32 := Scalar.muli v324 c256_i32_184
  v325
def k0_off78 (k0_t3 : Fin k0_t3_loop.trips) (c0_i32_196 : BitVec 32) : Fin 3 → Nat :=
  let c0_i32_33 : BitVec 32 := 0#32
  let c1_i32_34 : BitVec 32 := 1#32
  let arg12 : BitVec 32 := Scf.iv c0_i32_33 c1_i32_34 k0_t3
  let c4_i32_195 : BitVec 32 := 4#32
  let v346 : BitVec 32 := Scalar.muli arg12 c4_i32_195
  let v347 : BitVec 32 := Scalar.addi v346 c0_i32_196
  let v348 : Index := Scalar.indexCast v347
  let c128_197 : Index := 128#32
  let c0_198 : Index := 0#32
  ![v348.toNat, 128, 0]
def k0_mult7 (k0_t3 : Fin k0_t3_loop.trips) : BitVec 32 :=
  let c4_i32_253 : BitVec 32 := 4#32
  let c0_i32_33 : BitVec 32 := 0#32
  let c1_i32_34 : BitVec 32 := 1#32
  let arg12 : BitVec 32 := Scf.iv c0_i32_33 c1_i32_34 k0_t3
  let v441 : BitVec 32 := Scalar.muli c4_i32_253 arg12
  let c2_i32_254 : BitVec 32 := 2#32
  let v442 : BitVec 32 := Scalar.addi v441 c2_i32_254
  let c256_i32_255 : BitVec 32 := 256#32
  let v443 : BitVec 32 := Scalar.muli v442 c256_i32_255
  v443
def k0_mult8 (k0_t3 : Fin k0_t3_loop.trips) : BitVec 32 :=
  let c4_i32_260 : BitVec 32 := 4#32
  let c0_i32_33 : BitVec 32 := 0#32
  let c1_i32_34 : BitVec 32 := 1#32
  let arg12 : BitVec 32 := Scf.iv c0_i32_33 c1_i32_34 k0_t3
  let v451 : BitVec 32 := Scalar.muli c4_i32_260 arg12
  let c2_i32_261 : BitVec 32 := 2#32
  let v452 : BitVec 32 := Scalar.addi v451 c2_i32_261
  let c256_i32_262 : BitVec 32 := 256#32
  let v453 : BitVec 32 := Scalar.muli v452 c256_i32_262
  v453
def k0_off79 (k0_t3 : Fin k0_t3_loop.trips) (c0_i32_274 : BitVec 32) : Fin 3 → Nat :=
  let c0_i32_33 : BitVec 32 := 0#32
  let c1_i32_34 : BitVec 32 := 1#32
  let arg12 : BitVec 32 := Scf.iv c0_i32_33 c1_i32_34 k0_t3
  let c4_i32_273 : BitVec 32 := 4#32
  let v474 : BitVec 32 := Scalar.muli arg12 c4_i32_273
  let v475 : BitVec 32 := Scalar.addi v474 c0_i32_274
  let v476 : Index := Scalar.indexCast v475
  let c192_275 : Index := 192#32
  let c0_276 : Index := 0#32
  ![v476.toNat, 192, 0]
def k0_mult9 (k0_t3 : Fin k0_t3_loop.trips) : BitVec 32 :=
  let c4_i32_331 : BitVec 32 := 4#32
  let c0_i32_33 : BitVec 32 := 0#32
  let c1_i32_34 : BitVec 32 := 1#32
  let arg12 : BitVec 32 := Scf.iv c0_i32_33 c1_i32_34 k0_t3
  let v569 : BitVec 32 := Scalar.muli c4_i32_331 arg12
  let c3_i32_332 : BitVec 32 := 3#32
  let v570 : BitVec 32 := Scalar.addi v569 c3_i32_332
  let c256_i32_333 : BitVec 32 := 256#32
  let v571 : BitVec 32 := Scalar.muli v570 c256_i32_333
  v571
def k0_mult10 (k0_t3 : Fin k0_t3_loop.trips) : BitVec 32 :=
  let c4_i32_338 : BitVec 32 := 4#32
  let c0_i32_33 : BitVec 32 := 0#32
  let c1_i32_34 : BitVec 32 := 1#32
  let arg12 : BitVec 32 := Scf.iv c0_i32_33 c1_i32_34 k0_t3
  let v579 : BitVec 32 := Scalar.muli c4_i32_338 arg12
  let c3_i32_339 : BitVec 32 := 3#32
  let v580 : BitVec 32 := Scalar.addi v579 c3_i32_339
  let c256_i32_340 : BitVec 32 := 256#32
  let v581 : BitVec 32 := Scalar.muli v580 c256_i32_340
  v581
@[reducible] def k0_t4_loop : Scf.Loop 32 :=
  let c0_i32_36 : BitVec 32 := 0#32
  let c7_i32 : BitVec 32 := 7#32
  let v76 : BitVec 32 := Scalar.addi c0_i32_36 c7_i32
  let c1_i32_37 : BitVec 32 := 1#32
  ⟨c0_i32_36, v76, c1_i32_37⟩
def k0_mult11 (k0_t4 : Fin k0_t4_loop.trips) : BitVec 32 :=
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  v77
def k0_off80 (k0_t4 : Fin k0_t4_loop.trips) : Fin 2 → Nat :=
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  let v78 : BitVec 32 := v77
  let v79 : Index := Scalar.indexCast v78
  let c0_39 : Index := 0#32
  ![v79.toNat, 0]
def k0_off81 (k0_t4 : Fin k0_t4_loop.trips) : Fin 2 → Nat :=
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  let v78 : BitVec 32 := v77
  let v121 : Index := Scalar.indexCast v78
  let c256 : Index := 256#32
  ![v121.toNat, 256]
def k0_off82 (k0_t4 : Fin k0_t4_loop.trips) : Fin 2 → Nat :=
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  let v78 : BitVec 32 := v77
  let v164 : Index := Scalar.indexCast v78
  let c512 : Index := 512#32
  ![v164.toNat, 512]
def k0_off83 (k0_t4 : Fin k0_t4_loop.trips) : Fin 2 → Nat :=
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  let v78 : BitVec 32 := v77
  let v207 : Index := Scalar.indexCast v78
  let c768 : Index := 768#32
  ![v207.toNat, 768]
def k0_off84 (k0_t4 : Fin k0_t4_loop.trips) : Fin 2 → Nat :=
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  let v78 : BitVec 32 := v77
  let v250 : Index := Scalar.indexCast v78
  let c1024 : Index := 1024#32
  ![v250.toNat, 1024]
def k0_off85 (k0_t4 : Fin k0_t4_loop.trips) : Fin 2 → Nat :=
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  let v78 : BitVec 32 := v77
  let v293 : Index := Scalar.indexCast v78
  let c1280 : Index := 1280#32
  ![v293.toNat, 1280]
def k0_off86 (k0_t4 : Fin k0_t4_loop.trips) : Fin 2 → Nat :=
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  let v78 : BitVec 32 := v77
  let v336 : Index := Scalar.indexCast v78
  let c1536 : Index := 1536#32
  ![v336.toNat, 1536]
def k0_off87 (k0_t4 : Fin k0_t4_loop.trips) : Fin 2 → Nat :=
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  let v78 : BitVec 32 := v77
  let v379 : Index := Scalar.indexCast v78
  let c1792 : Index := 1792#32
  ![v379.toNat, 1792]
def k0_off88 (k0_t4 : Fin k0_t4_loop.trips) : Fin 2 → Nat :=
  let c0_236 : Index := 0#32
  let c0_i32_36 : BitVec 32 := 0#32
  let c1_i32_37 : BitVec 32 := 1#32
  let arg12 : BitVec 32 := Scf.iv c0_i32_36 c1_i32_37 k0_t4
  let c512_i32 : BitVec 32 := 512#32
  let v77 : BitVec 32 := Scalar.muli arg12 c512_i32
  let v78 : BitVec 32 := v77
  let v431 : Index := Scalar.indexCast v78
  ![0, v431.toNat]
abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x8192 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S2x128x8192 : Shape := ⟨3, ![2, 128, 8192]⟩
abbrev S8192 : Shape := ⟨1, ![8192]⟩
abbrev S3584x2048 : Shape := ⟨2, ![3584, 2048]⟩
abbrev S1 : Shape := ⟨1, ![1]⟩
abbrev S_ : Shape := ⟨0, ![]⟩
abbrev S2x128 : Shape := ⟨2, ![2, 128]⟩
abbrev S2x128x1 : Shape := ⟨3, ![2, 128, 1]⟩
abbrev S1x1x8192 : Shape := ⟨3, ![1, 1, 8192]⟩
abbrev S2x128x1x2x4096 : Shape := ⟨5, ![2, 128, 1, 2, 4096]⟩
abbrev S2x128x1x1x4096 : Shape := ⟨5, ![2, 128, 1, 1, 4096]⟩
abbrev S2x128x1x4096 : Shape := ⟨4, ![2, 128, 1, 4096]⟩
abbrev S2x128x2x2x2048 : Shape := ⟨5, ![2, 128, 2, 2, 2048]⟩
abbrev S2x128x2x1x2048 : Shape := ⟨5, ![2, 128, 2, 1, 2048]⟩
abbrev S2x128x2x2048 : Shape := ⟨4, ![2, 128, 2, 2048]⟩
abbrev S2x128x4x2x1024 : Shape := ⟨5, ![2, 128, 4, 2, 1024]⟩
abbrev S2x128x4x1x1024 : Shape := ⟨5, ![2, 128, 4, 1, 1024]⟩
abbrev S2x128x4x1024 : Shape := ⟨4, ![2, 128, 4, 1024]⟩
abbrev S2x128x8x2x512 : Shape := ⟨5, ![2, 128, 8, 2, 512]⟩
abbrev S2x128x8x1x512 : Shape := ⟨5, ![2, 128, 8, 1, 512]⟩
abbrev S2x128x8x512 : Shape := ⟨4, ![2, 128, 8, 512]⟩
abbrev S2x128x16x2x256 : Shape := ⟨5, ![2, 128, 16, 2, 256]⟩
abbrev S2x128x16x1x256 : Shape := ⟨5, ![2, 128, 16, 1, 256]⟩
abbrev S2x128x16x256 : Shape := ⟨4, ![2, 128, 16, 256]⟩
abbrev S2x128x32x2x128 : Shape := ⟨5, ![2, 128, 32, 2, 128]⟩
abbrev S2x128x32x1x128 : Shape := ⟨5, ![2, 128, 32, 1, 128]⟩
abbrev S2x128x32x128 : Shape := ⟨4, ![2, 128, 32, 128]⟩
abbrev S2x128x64x2x64 : Shape := ⟨5, ![2, 128, 64, 2, 64]⟩
abbrev S2x128x64x1x64 : Shape := ⟨5, ![2, 128, 64, 1, 64]⟩
abbrev S2x128x64x64 : Shape := ⟨4, ![2, 128, 64, 64]⟩
abbrev S2x128x128x2x32 : Shape := ⟨5, ![2, 128, 128, 2, 32]⟩
abbrev S2x128x128x1x32 : Shape := ⟨5, ![2, 128, 128, 1, 32]⟩
abbrev S2x128x128x32 : Shape := ⟨4, ![2, 128, 128, 32]⟩
abbrev S2x128x256x2x16 : Shape := ⟨5, ![2, 128, 256, 2, 16]⟩
abbrev S2x128x256x1x16 : Shape := ⟨5, ![2, 128, 256, 1, 16]⟩
abbrev S2x128x256x16 : Shape := ⟨4, ![2, 128, 256, 16]⟩
abbrev S2x128x512x2x8 : Shape := ⟨5, ![2, 128, 512, 2, 8]⟩
abbrev S2x128x512x1x8 : Shape := ⟨5, ![2, 128, 512, 1, 8]⟩
abbrev S2x128x512x8 : Shape := ⟨4, ![2, 128, 512, 8]⟩
abbrev S2x128x1024x2x4 : Shape := ⟨5, ![2, 128, 1024, 2, 4]⟩
abbrev S2x128x1024x1x4 : Shape := ⟨5, ![2, 128, 1024, 1, 4]⟩
abbrev S2x128x1024x4 : Shape := ⟨4, ![2, 128, 1024, 4]⟩
abbrev S2x128x2048x2x2 : Shape := ⟨5, ![2, 128, 2048, 2, 2]⟩
abbrev S2x128x2048x1x2 : Shape := ⟨5, ![2, 128, 2048, 1, 2]⟩
abbrev S2x128x2048x2 : Shape := ⟨4, ![2, 128, 2048, 2]⟩
abbrev S2x128x4096x2x1 : Shape := ⟨5, ![2, 128, 4096, 2, 1]⟩
abbrev S2x128x4096x1x1 : Shape := ⟨5, ![2, 128, 4096, 1, 1]⟩
abbrev S2x128x4096x1 : Shape := ⟨4, ![2, 128, 4096, 1]⟩
abbrev S2x128x2048 : Shape := ⟨3, ![2, 128, 2048]⟩
abbrev S2x128x3584 : Shape := ⟨3, ![2, 128, 3584]⟩
abbrev S256x3584 : Shape := ⟨2, ![256, 3584]⟩
abbrev S256x8192 : Shape := ⟨2, ![256, 8192]⟩

abbrev nBuf : Space → Nat
  | .hbm => 262
  | .vmem => 0
  | .smem => 0
  | _ => 0

abbrev hbmTy0_0 (i : Nat) : BufTy := match i % 128 with
  | 0 => ⟨S2x128x8192, .bf16⟩
  | 1 => ⟨S8192, .f32⟩
  | 2 => ⟨S3584x2048, .i8⟩
  | 3 => ⟨S1, .f32⟩
  | 4 => ⟨S2x128x8192, .f32⟩
  | 5 => ⟨S2x128x8192, .f32⟩
  | 6 => ⟨S_, .f32⟩
  | 7 => ⟨S2x128, .f32⟩
  | 8 => ⟨S2x128x1, .f32⟩
  | 9 => ⟨S_, .f32⟩
  | 10 => ⟨S2x128x1, .f32⟩
  | 11 => ⟨S2x128x1, .f32⟩
  | 12 => ⟨S_, .f32⟩
  | 13 => ⟨S2x128x1, .f32⟩
  | 14 => ⟨S2x128x1, .f32⟩
  | 15 => ⟨S2x128x1, .f32⟩
  | 16 => ⟨S2x128x8192, .f32⟩
  | 17 => ⟨S2x128x8192, .f32⟩
  | 18 => ⟨S1x1x8192, .f32⟩
  | 19 => ⟨S2x128x8192, .f32⟩
  | 20 => ⟨S2x128x8192, .f32⟩
  | 21 => ⟨S2x128x1x2x4096, .f32⟩
  | 22 => ⟨S2x128x1x1x4096, .f32⟩
  | 23 => ⟨S2x128x1x4096, .f32⟩
  | 24 => ⟨S2x128x1x1x4096, .f32⟩
  | 25 => ⟨S2x128x1x4096, .f32⟩
  | 26 => ⟨S2x128x1x4096, .f32⟩
  | 27 => ⟨S2x128x1x4096, .f32⟩
  | 28 => ⟨S2x128x1x1x4096, .f32⟩
  | 29 => ⟨S2x128x1x1x4096, .f32⟩
  | 30 => ⟨S2x128x1x2x4096, .f32⟩
  | 31 => ⟨S2x128x8192, .f32⟩
  | 32 => ⟨S2x128x2x2x2048, .f32⟩
  | 33 => ⟨S2x128x2x1x2048, .f32⟩
  | 34 => ⟨S2x128x2x2048, .f32⟩
  | 35 => ⟨S2x128x2x1x2048, .f32⟩
  | 36 => ⟨S2x128x2x2048, .f32⟩
  | 37 => ⟨S2x128x2x2048, .f32⟩
  | 38 => ⟨S2x128x2x2048, .f32⟩
  | 39 => ⟨S2x128x2x1x2048, .f32⟩
  | 40 => ⟨S2x128x2x1x2048, .f32⟩
  | 41 => ⟨S2x128x2x2x2048, .f32⟩
  | 42 => ⟨S2x128x8192, .f32⟩
  | 43 => ⟨S2x128x4x2x1024, .f32⟩
  | 44 => ⟨S2x128x4x1x1024, .f32⟩
  | 45 => ⟨S2x128x4x1024, .f32⟩
  | 46 => ⟨S2x128x4x1x1024, .f32⟩
  | 47 => ⟨S2x128x4x1024, .f32⟩
  | 48 => ⟨S2x128x4x1024, .f32⟩
  | 49 => ⟨S2x128x4x1024, .f32⟩
  | 50 => ⟨S2x128x4x1x1024, .f32⟩
  | 51 => ⟨S2x128x4x1x1024, .f32⟩
  | 52 => ⟨S2x128x4x2x1024, .f32⟩
  | 53 => ⟨S2x128x8192, .f32⟩
  | 54 => ⟨S2x128x8x2x512, .f32⟩
  | 55 => ⟨S2x128x8x1x512, .f32⟩
  | 56 => ⟨S2x128x8x512, .f32⟩
  | 57 => ⟨S2x128x8x1x512, .f32⟩
  | 58 => ⟨S2x128x8x512, .f32⟩
  | 59 => ⟨S2x128x8x512, .f32⟩
  | 60 => ⟨S2x128x8x512, .f32⟩
  | 61 => ⟨S2x128x8x1x512, .f32⟩
  | 62 => ⟨S2x128x8x1x512, .f32⟩
  | 63 => ⟨S2x128x8x2x512, .f32⟩
  | 64 => ⟨S2x128x8192, .f32⟩
  | 65 => ⟨S2x128x16x2x256, .f32⟩
  | 66 => ⟨S2x128x16x1x256, .f32⟩
  | 67 => ⟨S2x128x16x256, .f32⟩
  | 68 => ⟨S2x128x16x1x256, .f32⟩
  | 69 => ⟨S2x128x16x256, .f32⟩
  | 70 => ⟨S2x128x16x256, .f32⟩
  | 71 => ⟨S2x128x16x256, .f32⟩
  | 72 => ⟨S2x128x16x1x256, .f32⟩
  | 73 => ⟨S2x128x16x1x256, .f32⟩
  | 74 => ⟨S2x128x16x2x256, .f32⟩
  | 75 => ⟨S2x128x8192, .f32⟩
  | 76 => ⟨S2x128x32x2x128, .f32⟩
  | 77 => ⟨S2x128x32x1x128, .f32⟩
  | 78 => ⟨S2x128x32x128, .f32⟩
  | 79 => ⟨S2x128x32x1x128, .f32⟩
  | 80 => ⟨S2x128x32x128, .f32⟩
  | 81 => ⟨S2x128x32x128, .f32⟩
  | 82 => ⟨S2x128x32x128, .f32⟩
  | 83 => ⟨S2x128x32x1x128, .f32⟩
  | 84 => ⟨S2x128x32x1x128, .f32⟩
  | 85 => ⟨S2x128x32x2x128, .f32⟩
  | 86 => ⟨S2x128x8192, .f32⟩
  | 87 => ⟨S2x128x64x2x64, .f32⟩
  | 88 => ⟨S2x128x64x1x64, .f32⟩
  | 89 => ⟨S2x128x64x64, .f32⟩
  | 90 => ⟨S2x128x64x1x64, .f32⟩
  | 91 => ⟨S2x128x64x64, .f32⟩
  | 92 => ⟨S2x128x64x64, .f32⟩
  | 93 => ⟨S2x128x64x64, .f32⟩
  | 94 => ⟨S2x128x64x1x64, .f32⟩
  | 95 => ⟨S2x128x64x1x64, .f32⟩
  | 96 => ⟨S2x128x64x2x64, .f32⟩
  | 97 => ⟨S2x128x8192, .f32⟩
  | 98 => ⟨S2x128x128x2x32, .f32⟩
  | 99 => ⟨S2x128x128x1x32, .f32⟩
  | 100 => ⟨S2x128x128x32, .f32⟩
  | 101 => ⟨S2x128x128x1x32, .f32⟩
  | 102 => ⟨S2x128x128x32, .f32⟩
  | 103 => ⟨S2x128x128x32, .f32⟩
  | 104 => ⟨S2x128x128x32, .f32⟩
  | 105 => ⟨S2x128x128x1x32, .f32⟩
  | 106 => ⟨S2x128x128x1x32, .f32⟩
  | 107 => ⟨S2x128x128x2x32, .f32⟩
  | 108 => ⟨S2x128x8192, .f32⟩
  | 109 => ⟨S2x128x256x2x16, .f32⟩
  | 110 => ⟨S2x128x256x1x16, .f32⟩
  | 111 => ⟨S2x128x256x16, .f32⟩
  | 112 => ⟨S2x128x256x1x16, .f32⟩
  | 113 => ⟨S2x128x256x16, .f32⟩
  | 114 => ⟨S2x128x256x16, .f32⟩
  | 115 => ⟨S2x128x256x16, .f32⟩
  | 116 => ⟨S2x128x256x1x16, .f32⟩
  | 117 => ⟨S2x128x256x1x16, .f32⟩
  | 118 => ⟨S2x128x256x2x16, .f32⟩
  | 119 => ⟨S2x128x8192, .f32⟩
  | 120 => ⟨S2x128x512x2x8, .f32⟩
  | 121 => ⟨S2x128x512x1x8, .f32⟩
  | 122 => ⟨S2x128x512x8, .f32⟩
  | 123 => ⟨S2x128x512x1x8, .f32⟩
  | 124 => ⟨S2x128x512x8, .f32⟩
  | 125 => ⟨S2x128x512x8, .f32⟩
  | 126 => ⟨S2x128x512x8, .f32⟩
  | 127 => ⟨S2x128x512x1x8, .f32⟩
  | _ => ⟨S2x128x8192, .bf16⟩

abbrev hbmTy0_1 (i : Nat) : BufTy := match i % 128 with
  | 0 => ⟨S2x128x512x1x8, .f32⟩
  | 1 => ⟨S2x128x512x2x8, .f32⟩
  | 2 => ⟨S2x128x8192, .f32⟩
  | 3 => ⟨S2x128x1024x2x4, .f32⟩
  | 4 => ⟨S2x128x1024x1x4, .f32⟩
  | 5 => ⟨S2x128x1024x4, .f32⟩
  | 6 => ⟨S2x128x1024x1x4, .f32⟩
  | 7 => ⟨S2x128x1024x4, .f32⟩
  | 8 => ⟨S2x128x1024x4, .f32⟩
  | 9 => ⟨S2x128x1024x4, .f32⟩
  | 10 => ⟨S2x128x1024x1x4, .f32⟩
  | 11 => ⟨S2x128x1024x1x4, .f32⟩
  | 12 => ⟨S2x128x1024x2x4, .f32⟩
  | 13 => ⟨S2x128x8192, .f32⟩
  | 14 => ⟨S2x128x2048x2x2, .f32⟩
  | 15 => ⟨S2x128x2048x1x2, .f32⟩
  | 16 => ⟨S2x128x2048x2, .f32⟩
  | 17 => ⟨S2x128x2048x1x2, .f32⟩
  | 18 => ⟨S2x128x2048x2, .f32⟩
  | 19 => ⟨S2x128x2048x2, .f32⟩
  | 20 => ⟨S2x128x2048x2, .f32⟩
  | 21 => ⟨S2x128x2048x1x2, .f32⟩
  | 22 => ⟨S2x128x2048x1x2, .f32⟩
  | 23 => ⟨S2x128x2048x2x2, .f32⟩
  | 24 => ⟨S2x128x8192, .f32⟩
  | 25 => ⟨S2x128x4096x2x1, .f32⟩
  | 26 => ⟨S2x128x4096x1x1, .f32⟩
  | 27 => ⟨S2x128x4096x1, .f32⟩
  | 28 => ⟨S2x128x4096x1x1, .f32⟩
  | 29 => ⟨S2x128x4096x1, .f32⟩
  | 30 => ⟨S2x128x4096x1, .f32⟩
  | 31 => ⟨S2x128x4096x1, .f32⟩
  | 32 => ⟨S2x128x4096x1x1, .f32⟩
  | 33 => ⟨S2x128x4096x1x1, .f32⟩
  | 34 => ⟨S2x128x4096x2x1, .f32⟩
  | 35 => ⟨S2x128x8192, .f32⟩
  | 36 => ⟨S_, .f32⟩
  | 37 => ⟨S2x128x8192, .f32⟩
  | 38 => ⟨S2x128x8192, .f32⟩
  | 39 => ⟨S2x128x8192, .f32⟩
  | 40 => ⟨S_, .f32⟩
  | 41 => ⟨S2x128, .f32⟩
  | 42 => ⟨S_, .f32⟩
  | 43 => ⟨S2x128, .f32⟩
  | 44 => ⟨S2x128, .i1⟩
  | 45 => ⟨S_, .f32⟩
  | 46 => ⟨S2x128, .f32⟩
  | 47 => ⟨S2x128, .f32⟩
  | 48 => ⟨S_, .f32⟩
  | 49 => ⟨S_, .f32⟩
  | 50 => ⟨S2x128, .f32⟩
  | 51 => ⟨S2x128, .f32⟩
  | 52 => ⟨S2x128x1, .f32⟩
  | 53 => ⟨S2x128x8192, .f32⟩
  | 54 => ⟨S2x128x8192, .f32⟩
  | 55 => ⟨S2x128x8192, .f32⟩
  | 56 => ⟨S_, .f32⟩
  | 57 => ⟨S_, .f32⟩
  | 58 => ⟨S_, .f32⟩
  | 59 => ⟨S2x128x8192, .f32⟩
  | 60 => ⟨S2x128x8192, .f32⟩
  | 61 => ⟨S_, .f32⟩
  | 62 => ⟨S2x128x8192, .f32⟩
  | 63 => ⟨S2x128x8192, .f32⟩
  | 64 => ⟨S2x128x8192, .i32⟩
  | 65 => ⟨S3584x2048, .i32⟩
  | 66 => ⟨S_, .i32⟩
  | 67 => ⟨S3584x2048, .i32⟩
  | 68 => ⟨S3584x2048, .i32⟩
  | 69 => ⟨S_, .i32⟩
  | 70 => ⟨S3584x2048, .i32⟩
  | 71 => ⟨S3584x2048, .i32⟩
  | 72 => ⟨S_, .i32⟩
  | 73 => ⟨S3584x2048, .i32⟩
  | 74 => ⟨S3584x2048, .i32⟩
  | 75 => ⟨S3584x2048, .bf16⟩
  | 76 => ⟨S2x128x2048, .i32⟩
  | 77 => ⟨S2x128x2048, .bf16⟩
  | 78 => ⟨S2x128x3584, .f32⟩
  | 79 => ⟨S3584x2048, .i32⟩
  | 80 => ⟨S_, .i32⟩
  | 81 => ⟨S3584x2048, .i32⟩
  | 82 => ⟨S3584x2048, .i32⟩
  | 83 => ⟨S_, .i32⟩
  | 84 => ⟨S3584x2048, .i32⟩
  | 85 => ⟨S3584x2048, .i32⟩
  | 86 => ⟨S_, .i32⟩
  | 87 => ⟨S3584x2048, .i32⟩
  | 88 => ⟨S3584x2048, .i32⟩
  | 89 => ⟨S3584x2048, .bf16⟩
  | 90 => ⟨S2x128x2048, .i32⟩
  | 91 => ⟨S2x128x2048, .bf16⟩
  | 92 => ⟨S2x128x3584, .f32⟩
  | 93 => ⟨S2x128x3584, .f32⟩
  | 94 => ⟨S3584x2048, .i32⟩
  | 95 => ⟨S_, .i32⟩
  | 96 => ⟨S3584x2048, .i32⟩
  | 97 => ⟨S3584x2048, .i32⟩
  | 98 => ⟨S_, .i32⟩
  | 99 => ⟨S3584x2048, .i32⟩
  | 100 => ⟨S3584x2048, .i32⟩
  | 101 => ⟨S_, .i32⟩
  | 102 => ⟨S3584x2048, .i32⟩
  | 103 => ⟨S3584x2048, .i32⟩
  | 104 => ⟨S3584x2048, .bf16⟩
  | 105 => ⟨S2x128x2048, .i32⟩
  | 106 => ⟨S2x128x2048, .bf16⟩
  | 107 => ⟨S2x128x3584, .f32⟩
  | 108 => ⟨S2x128x3584, .f32⟩
  | 109 => ⟨S3584x2048, .i32⟩
  | 110 => ⟨S_, .i32⟩
  | 111 => ⟨S3584x2048, .i32⟩
  | 112 => ⟨S3584x2048, .i32⟩
  | 113 => ⟨S_, .i32⟩
  | 114 => ⟨S3584x2048, .i32⟩
  | 115 => ⟨S3584x2048, .i32⟩
  | 116 => ⟨S_, .i32⟩
  | 117 => ⟨S3584x2048, .i32⟩
  | 118 => ⟨S3584x2048, .i32⟩
  | 119 => ⟨S3584x2048, .bf16⟩
  | 120 => ⟨S2x128x2048, .i32⟩
  | 121 => ⟨S2x128x2048, .bf16⟩
  | 122 => ⟨S2x128x3584, .f32⟩
  | 123 => ⟨S2x128x3584, .f32⟩
  | 124 => ⟨S2x128x1, .f32⟩
  | 125 => ⟨S2x128x3584, .f32⟩
  | 126 => ⟨S2x128x3584, .f32⟩
  | 127 => ⟨S_, .f32⟩
  | _ => ⟨S2x128x8192, .bf16⟩

abbrev hbmTy0_2 (i : Nat) : BufTy := match i % 128 with
  | 0 => ⟨S2x128x3584, .f32⟩
  | 1 => ⟨S2x128x3584, .f32⟩
  | 2 => ⟨S2x128x3584, .bf16⟩
  | 3 => ⟨S256x3584, .bf16⟩
  | 4 => ⟨S2x128x8192, .i8⟩
  | 5 => ⟨S256x8192, .i8⟩
  | _ => ⟨S2x128x8192, .bf16⟩

abbrev hbmTy (i : Nat) : BufTy := match i / 128 with
  | 0 => hbmTy0_0 i
  | 1 => hbmTy0_1 i
  | 2 => hbmTy0_2 i
  | _ => ⟨S2x128x8192, .bf16⟩

abbrev bufTy : (tb : Table) → Fin (tcTables nBuf tb) → BufTy
  | .hbm, ⟨i, _⟩ => hbmTy i
  | _, _ => ⟨S2x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_cst_2 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_cst_3 : Ref sig .tc := ⟨.hbm, 168, rfl⟩
abbrev main_v160 : Ref sig .tc := ⟨.hbm, 169, rfl⟩
abbrev main_cst_4 : Ref sig .tc := ⟨.hbm, 170, rfl⟩
abbrev main_v161 : Ref sig .tc := ⟨.hbm, 171, rfl⟩
abbrev main_v162 : Ref sig .tc := ⟨.hbm, 172, rfl⟩
abbrev main_cst_5 : Ref sig .tc := ⟨.hbm, 173, rfl⟩
abbrev main_v163 : Ref sig .tc := ⟨.hbm, 174, rfl⟩
abbrev main_v164 : Ref sig .tc := ⟨.hbm, 175, rfl⟩
abbrev main_cst_6 : Ref sig .tc := ⟨.hbm, 176, rfl⟩
abbrev main_call0_v0 : Ref sig .tc := ⟨.hbm, 177, rfl⟩
abbrev main_call0_v1 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_cst_7 : Ref sig .tc := ⟨.hbm, 184, rfl⟩
abbrev main_cst_8 : Ref sig .tc := ⟨.hbm, 185, rfl⟩
abbrev main_call2_v0 : Ref sig .tc := ⟨.hbm, 186, rfl⟩
abbrev main_call2_v1 : Ref sig .tc := ⟨.hbm, 187, rfl⟩
abbrev main_call2_v2 : Ref sig .tc := ⟨.hbm, 188, rfl⟩
abbrev main_call2_v3 : Ref sig .tc := ⟨.hbm, 189, rfl⟩
abbrev main_call2_v4 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_c : Ref sig .tc := ⟨.hbm, 194, rfl⟩
abbrev main_v173 : Ref sig .tc := ⟨.hbm, 195, rfl⟩
abbrev main_v174 : Ref sig .tc := ⟨.hbm, 196, rfl⟩
abbrev main_c_9 : Ref sig .tc := ⟨.hbm, 197, rfl⟩
abbrev main_v175 : Ref sig .tc := ⟨.hbm, 198, rfl⟩
abbrev main_v176 : Ref sig .tc := ⟨.hbm, 199, rfl⟩
abbrev main_c_10 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_c_11 : Ref sig .tc := ⟨.hbm, 208, rfl⟩
abbrev main_v184 : Ref sig .tc := ⟨.hbm, 209, rfl⟩
abbrev main_v185 : Ref sig .tc := ⟨.hbm, 210, rfl⟩
abbrev main_c_12 : Ref sig .tc := ⟨.hbm, 211, rfl⟩
abbrev main_v186 : Ref sig .tc := ⟨.hbm, 212, rfl⟩
abbrev main_v187 : Ref sig .tc := ⟨.hbm, 213, rfl⟩
abbrev main_c_13 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_c_14 : Ref sig .tc := ⟨.hbm, 223, rfl⟩
abbrev main_v196 : Ref sig .tc := ⟨.hbm, 224, rfl⟩
abbrev main_v197 : Ref sig .tc := ⟨.hbm, 225, rfl⟩
abbrev main_c_15 : Ref sig .tc := ⟨.hbm, 226, rfl⟩
abbrev main_v198 : Ref sig .tc := ⟨.hbm, 227, rfl⟩
abbrev main_v199 : Ref sig .tc := ⟨.hbm, 228, rfl⟩
abbrev main_c_16 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_c_17 : Ref sig .tc := ⟨.hbm, 238, rfl⟩
abbrev main_v208 : Ref sig .tc := ⟨.hbm, 239, rfl⟩
abbrev main_v209 : Ref sig .tc := ⟨.hbm, 240, rfl⟩
abbrev main_c_18 : Ref sig .tc := ⟨.hbm, 241, rfl⟩
abbrev main_v210 : Ref sig .tc := ⟨.hbm, 242, rfl⟩
abbrev main_v211 : Ref sig .tc := ⟨.hbm, 243, rfl⟩
abbrev main_c_19 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩

abbrev nD : Nat := 1
abbrev τ : Topo := Topo.v7x

variable {F : FTy → Type} [FloatOps F]
-- ==== Proof.KernelQuant.lean ====
/- The invariant of the quantising loop of `proofs.«01_k».proof.Kernel`: its stores through strided rectangles leave it
   without a generated one. One trip is run once at a symbolic trip index; what it writes into the codes window, the
   fp8 activations and the natural-order scratch is recorded as pieces, and the invariant holds the pieces of the trips
   before the current one. -/
module

public import proofs.«01_k».proof.Proof.Gen.Kernel.Skeleton
public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### The quantising loop `k0_t3_loop` -/

/-- One trip's resources: what the region reads (arg9) at its contents, what it writes (arg5, arg10,
   arg11) at any. -/
abbrev Trip_k0_t3 (c : Dev nD) (arg9 : Memref sig .tc .vmem S32x256x256 .f32) (arg5 : Memref sig .tc .vmem S256x8192 .i8) (arg10 : Memref sig .tc .vmem S32x256x256 .fp8e4m3) (arg11 : Memref sig .tc .vmem S2x256x128 .f32) (X_arg9 : BufTy.Contents (Elt F) arg9.view.ty) (f_arg5 : BufTy.Contents (Elt F) arg5.view.ty) (f_arg10 : BufTy.Contents (Elt F) arg10.view.ty) (f_arg11 : BufTy.Contents (Elt F) arg11.view.ty) : sProp 𝕄G :=
  iprop((arg9.view.loc (c : Thread nD τ) ↦[arg9.view.set]{fullShare} X_arg9) ∗ (arg5.view.loc (c : Thread nD τ) ↦[arg5.view.set]{fullShare} f_arg5) ∗ (arg10.view.loc (c : Thread nD τ) ↦[arg10.view.set]{fullShare} f_arg10) ∗ (arg11.view.loc (c : Thread nD τ) ↦[arg11.view.set]{fullShare} f_arg11))

/-- ONE TRIP of `k0_t3_loop` at a symbolic `k`, run by `sl_exec` (its rectangles' offsets closed
   forms of `k`, their geometry linear arithmetic): the pieces it writes into arg5, arg10, arg11 are
   the run's own finds — the witnesses `sl_close` assigns handing the buffers to the continuation,
   as functions of the contents the trip finds in the memrefs it writes (the region loads some of
   them back). `@[irreducible]`: cited, never unfolded. -/
@[irreducible] def trip_k0_t3 (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (k : Fin k0_t3_loop.trips) :
    Σ' (L_arg5 : (BufTy.Contents (Elt F) arg5.view.ty → BufTy.Contents (Elt F) arg10.view.ty → BufTy.Contents (Elt F) arg11.view.ty → List (View.Piece (Elt F) S256x8192 .i8))) (L_arg10 : (BufTy.Contents (Elt F) arg5.view.ty → BufTy.Contents (Elt F) arg10.view.ty → BufTy.Contents (Elt F) arg11.view.ty → List (View.Piece (Elt F) S32x256x256 .fp8e4m3))) , { L_arg11 : (BufTy.Contents (Elt F) arg5.view.ty → BufTy.Contents (Elt F) arg10.view.ty → BufTy.Contents (Elt F) arg11.view.ty → List (View.Piece (Elt F) S2x256x128 .f32)) // ∀ (E : Set ℕ) (f_arg5 : BufTy.Contents (Elt F) arg5.view.ty) (f_arg10 : BufTy.Contents (Elt F) arg10.view.ty) (f_arg11 : BufTy.Contents (Elt F) arg11.view.ty),
      Trip_k0_t3 (F := F) c arg9 arg5 arg10 arg11 X_arg9 f_arg5 f_arg10 f_arg11
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 v70 k PUnit.unit)
          (fun _ => Trip_k0_t3 (F := F) c arg9 arg5 arg10 arg11 X_arg9 (arg5.view.writes (Elt F) f_arg5 (L_arg5 f_arg5 f_arg10 f_arg11)) (arg10.view.writes (Elt F) f_arg10 (L_arg10 f_arg5 f_arg10 f_arg11)) (arg11.view.writes (Elt F) f_arg11 (L_arg11 f_arg5 f_arg10 f_arg11))) } := by
  have hk : k.val < 8 := Nat.lt_of_lt_of_le k.isLt k0_t3_abs.2.1
  refine ⟨?_, ?_, ?_, fun E f_arg5 f_arg10 f_arg11 => ?run⟩
  case run =>
    unfold k0_t3_body
    iintro ⟨HR_arg9, HW_arg5, HW_arg10, HW_arg11⟩
    sl_exec
    sl_step
    sl_close

/-- The trip's piece lists (plain projections of `trip_…`, for the recursion below to cite without
   its proof), at the contents the trip finds in the written memrefs. -/
abbrev tripL_k0_t3 (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (k : Fin k0_t3_loop.trips) (f_arg5 : BufTy.Contents (Elt F) arg5.view.ty) (f_arg10 : BufTy.Contents (Elt F) arg10.view.ty) (f_arg11 : BufTy.Contents (Elt F) arg11.view.ty) : List (View.Piece (Elt F) S256x8192 .i8) × List (View.Piece (Elt F) S32x256x256 .fp8e4m3) × List (View.Piece (Elt F) S2x256x128 .f32) :=
  ((trip_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k).1 f_arg5 f_arg10 f_arg11, (trip_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k).2.1 f_arg5 f_arg10 f_arg11, (trip_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k).2.2.1 f_arg5 f_arg10 f_arg11)

/-- Trip `k`'s contribution to the state the recursion `pb_k0_t3` below carries (`prev`): its pieces
   in front, per written memref; past the last trip, `prev` itself. -/
@[irreducible] def pb_k0_t3Step (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) (k : ℕ) (prev : List (View.Piece (Elt F) S256x8192 .i8) × List (View.Piece (Elt F) S32x256x256 .fp8e4m3) × List (View.Piece (Elt F) S2x256x128 .f32)) : List (View.Piece (Elt F) S256x8192 .i8) × List (View.Piece (Elt F) S32x256x256 .fp8e4m3) × List (View.Piece (Elt F) S2x256x128 .f32) :=
  if h : k < k0_t3_loop.trips then
    ((tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 ⟨k, h⟩ (arg5.view.writes (Elt F) G_arg5 prev.1) (arg10.view.writes (Elt F) G_arg10 prev.2.1) (arg11.view.writes (Elt F) G_arg11 prev.2.2)).1 ++ prev.1, (tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 ⟨k, h⟩ (arg5.view.writes (Elt F) G_arg5 prev.1) (arg10.view.writes (Elt F) G_arg10 prev.2.1) (arg11.view.writes (Elt F) G_arg11 prev.2.2)).2.1 ++ prev.2.1, (tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 ⟨k, h⟩ (arg5.view.writes (Elt F) G_arg5 prev.1) (arg10.view.writes (Elt F) G_arg10 prev.2.1) (arg11.view.writes (Elt F) G_arg11 prev.2.2)).2.2 ++ prev.2.2)
  else prev

/-- The pieces of the trips before `k` (last first), per written memref, starting from the contents
   `G_·` at loop entry; each trip's pieces taken at the contents the earlier trips left. -/
def pb_k0_t3 (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) : ℕ → List (View.Piece (Elt F) S256x8192 .i8) × List (View.Piece (Elt F) S32x256x256 .fp8e4m3) × List (View.Piece (Elt F) S2x256x128 .f32)
  | 0 => ([], [], [])
  | k + 1 => pb_k0_t3Step 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k (pb_k0_t3 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k)

theorem pb_k0_t3_succ (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) (k : Fin k0_t3_loop.trips) :
    pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 (k.val + 1)
      = ((tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k (arg5.view.writes (Elt F) G_arg5 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).1) (arg10.view.writes (Elt F) G_arg10 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.1) (arg11.view.writes (Elt F) G_arg11 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.2)).1 ++ (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).1, (tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k (arg5.view.writes (Elt F) G_arg5 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).1) (arg10.view.writes (Elt F) G_arg10 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.1) (arg11.view.writes (Elt F) G_arg11 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.2)).2.1 ++ (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.1, (tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k (arg5.view.writes (Elt F) G_arg5 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).1) (arg10.view.writes (Elt F) G_arg10 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.1) (arg11.view.writes (Elt F) G_arg11 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.2)).2.2 ++ (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.2) := by
  rw [pb_k0_t3.eq_2]; unfold pb_k0_t3Step; exact dif_pos k.isLt

/-- THE INVARIANT before trip `k`: arg9 read at `X_·`; arg5, arg10, arg11 holding the pieces of the
   trips before `k` written over the contents at loop entry `G_·` (stated `∃ f, … ∗ ⌜f = …⌝`, so
   that a hypothesis of any contents matches and the equation is what is proved). -/
abbrev inv_k0_t3 (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) (k : ℕ) (_u : PUnit) : sProp 𝕄G :=
  iprop((arg9.view.loc (c : Thread nD τ) ↦[arg9.view.set]{fullShare} X_arg9) ∗ (∃ f, (arg5.view.loc (c : Thread nD τ) ↦[arg5.view.set]{fullShare} f) ∗ ⌜f = arg5.view.writes (Elt F) G_arg5 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k).1⌝) ∗ (∃ f, (arg10.view.loc (c : Thread nD τ) ↦[arg10.view.set]{fullShare} f) ∗ ⌜f = arg10.view.writes (Elt F) G_arg10 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k).2.1⌝) ∗ (∃ f, (arg11.view.loc (c : Thread nD τ) ↦[arg11.view.set]{fullShare} f) ∗ ⌜f = arg11.view.writes (Elt F) G_arg11 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k).2.2⌝))

set_option warn.classDefReducibility false in
/-- THE LOOP BY ITS INVARIANT — generated (`@[sl_loop]`: `sl_exec` finds it meeting `k0_t3_loop`,
   fixing `X_· G_·` against the context; after the loop each written memref holds `writes G (pb …
   trips)`). -/
@[sl_loop] def loopInv_k0_t3 (𝒱 : Variants) (c : Dev nD) (bd : Option 𝒱.V) (E : Set ℕ) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) :
    LoopInvTy_k0_t3 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 v70 where
  inv := inv_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11
  step k acc := by
    iintro ⟨HR_arg9, ⟨%f_arg5, HW_arg5, %h_arg5⟩, ⟨%f_arg10, HW_arg10, %h_arg10⟩, ⟨%f_arg11, HW_arg11, %h_arg11⟩⟩
    iapply (wp_wand_r Idealize.ShloMosaic.frame (wpE (defs₀ (F := F)) 𝒱 (c : Thread nD τ) bd) E)
    isplitl [HR_arg9 HW_arg5 HW_arg10 HW_arg11]
    · iapply ((trip_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k).2.2.2 E f_arg5 f_arg10 f_arg11)
      isplitl [HR_arg9]; · iexact HR_arg9
      isplitl [HW_arg5]; · iexact HW_arg5
      isplitl [HW_arg10]; · iexact HW_arg10
      iexact HW_arg11
    · iintro %_ ⟨HR_arg9, HW_arg5, HW_arg10, HW_arg11⟩
      isplitl [HR_arg9]; · iexact HR_arg9
      rw [pb_k0_t3_succ]
      isplitl [HW_arg5]
      · iexists _; isplitl [HW_arg5]; · iexact HW_arg5
        ipureintro; rw [h_arg5, h_arg10, h_arg11, ← View.writes_append]
      isplitl [HW_arg10]
      · iexists _; isplitl [HW_arg10]; · iexact HW_arg10
        ipureintro; rw [h_arg5, h_arg10, h_arg11, ← View.writes_append]
      iexists _; isplitl [HW_arg11]; · iexact HW_arg11
      ipureintro; rw [h_arg5, h_arg10, h_arg11, ← View.writes_append]

end Cert.Proof.Kernel

end
-- ==== Proof.KernelRun.lean ====
/- One run of the whole body of `proofs.«01_k».proof.Kernel` on any staging memrefs, each loop by its invariant: the inputs
   come back as they were, every other buffer at some contents. -/
module

public import proofs.«01_k».proof.Proof.Gen.Kernel.Frame
public import proofs.«01_k».proof.Proof.Gen.Kernel.Skeleton
public import proofs.«01_k».proof.Proof.Gen.Kernel.Loops
public import proofs.«01_k».proof.Proof.KernelQuant
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 0
abbrev ms0_1 (t : Fin cfg0.N) : Memref sig .tc .vmem S32x256 .f32 := win0_1.stage (cfg0.slots t 1)
abbrev hs0_1 (t : Fin cfg0.N) : (ms0_1 t).IsWhole := hstage0_1 0
abbrev ms0_2 (t : Fin cfg0.N) : Memref sig .tc .vmem S3584x2048 .i8 := win0_2.stage (cfg0.slots t 2)
abbrev hs0_2 (t : Fin cfg0.N) : (ms0_2 t).IsWhole := hstage0_2 0
abbrev ms0_3 (t : Fin cfg0.N) : Memref sig .tc .smem S1 .f32 := win0_3.stage (cfg0.slots t 3)
abbrev hs0_3 (t : Fin cfg0.N) : (ms0_3 t).IsWhole := hstage0_3 0
abbrev ms0_4 (t : Fin cfg0.N) : Memref sig .tc .vmem S256x3584 .bf16 := win0_4.stage (cfg0.slots t 4)
abbrev hs0_4 (t : Fin cfg0.N) : (ms0_4 t).IsWhole := hstage0_4 0
abbrev ms0_5 (t : Fin cfg0.N) : Memref sig .tc .vmem S256x8192 .i8 := win0_5.stage (cfg0.slots t 5)
abbrev hs0_5 (t : Fin cfg0.N) : (ms0_5 t).IsWhole := hstage0_5 0
abbrev ms0_6 (t : Fin cfg0.N) : Memref sig .tc .vmem S2x128 .f32 := win0_6.stage (cfg0.slots t 6)
abbrev hs0_6 (t : Fin cfg0.N) : (ms0_6 t).IsWhole := hstage0_6 0
/-- The scratch operands: whole scoped buffers of the kernel's own, passed beside the windows. -/
abbrev scM0_0 : Memref sig .tc .vmem S256x256 .bf16 := Memref.whole cc0_scratch0
abbrev scM0_1 : Memref sig .tc .vmem S3x32x256 .f32 := Memref.whole cc0_scratch1
abbrev scM0_2 : Memref sig .tc .vmem S32x256x256 .f32 := Memref.whole cc0_scratch2
abbrev scM0_3 : Memref sig .tc .vmem S32x256x256 .fp8e4m3 := Memref.whole cc0_scratch3
abbrev scM0_4 : Memref sig .tc .vmem S2x256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 4000000 in
/-- The body's triple: on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)
    (x0 : Vec F S256x8192 .bf16) (x1 : Vec F S32x256 .f32) (x2 : Vec F S3584x2048 .i8) (x3 : Vec F S1 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_h_bitlinear arg0 harg0 arg1 harg1 arg2 harg2 arg3 harg3 arg4 harg4 arg5 harg5 arg6 harg6 arg7 harg7 arg8 harg8 arg9 harg9 arg10 harg10 arg11 harg11) K := by
    intro E K
    simp only [cc0_h_bitlinear_eq_skeleton]; unfold cc0_h_bitlinear_skel
    simp only [k0_part45_eq_skeleton, k0_part46_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Proof.Kernel

end
-- ==== Proof.KernelFrame.lean ====
/- The frame of `proofs.«01_k».proof.Kernel`: the pipeline's proof data, the body obligation, the launch, and the
   claim that the argument arrays end unchanged with every counter at zero. -/
module

public import proofs.«01_k».proof.Proof.KernelRun
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c _ _ _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame claim's post from a run whose outputs are forgotten: a staged input is read at its array, an array no
    window stages by the post's second clause. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- THE FRAME: `Cert.quiescent_Kernel`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.Kernel

end
-- ==== Proof.KernelIdealQuant.lean ====
/- The invariant of the quantising loop of `proofs.«01_k».proof.KernelIdeal`: its stores through strided rectangles leave it
   without a generated one. One trip is run once at a symbolic trip index; what it writes into the codes window, the
   fp8 activations and the natural-order scratch is recorded as pieces, and the invariant holds the pieces of the trips
   before the current one. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### The quantising loop `k0_t3_loop` -/

/-- One trip's resources: what the region reads (arg9) at its contents, what it writes (arg5, arg10,
   arg11) at any. -/
abbrev Trip_k0_t3 (c : Dev nD) (arg9 : Memref sig .tc .vmem S32x256x256 .f32) (arg5 : Memref sig .tc .vmem S256x8192 .i8) (arg10 : Memref sig .tc .vmem S32x256x256 .fp8e4m3) (arg11 : Memref sig .tc .vmem S2x256x128 .f32) (X_arg9 : BufTy.Contents (Elt F) arg9.view.ty) (f_arg5 : BufTy.Contents (Elt F) arg5.view.ty) (f_arg10 : BufTy.Contents (Elt F) arg10.view.ty) (f_arg11 : BufTy.Contents (Elt F) arg11.view.ty) : sProp 𝕄G :=
  iprop((arg9.view.loc (c : Thread nD τ) ↦[arg9.view.set]{fullShare} X_arg9) ∗ (arg5.view.loc (c : Thread nD τ) ↦[arg5.view.set]{fullShare} f_arg5) ∗ (arg10.view.loc (c : Thread nD τ) ↦[arg10.view.set]{fullShare} f_arg10) ∗ (arg11.view.loc (c : Thread nD τ) ↦[arg11.view.set]{fullShare} f_arg11))

/-- ONE TRIP of `k0_t3_loop` at a symbolic `k`, run by `sl_exec` (its rectangles' offsets closed
   forms of `k`, their geometry linear arithmetic): the pieces it writes into arg5, arg10, arg11 are
   the run's own finds — the witnesses `sl_close` assigns handing the buffers to the continuation,
   as functions of the contents the trip finds in the memrefs it writes (the region loads some of
   them back). `@[irreducible]`: cited, never unfolded. -/
@[irreducible] def trip_k0_t3 (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (k : Fin k0_t3_loop.trips) :
    Σ' (L_arg5 : (BufTy.Contents (Elt F) arg5.view.ty → BufTy.Contents (Elt F) arg10.view.ty → BufTy.Contents (Elt F) arg11.view.ty → List (View.Piece (Elt F) S256x8192 .i8))) (L_arg10 : (BufTy.Contents (Elt F) arg5.view.ty → BufTy.Contents (Elt F) arg10.view.ty → BufTy.Contents (Elt F) arg11.view.ty → List (View.Piece (Elt F) S32x256x256 .fp8e4m3))) , { L_arg11 : (BufTy.Contents (Elt F) arg5.view.ty → BufTy.Contents (Elt F) arg10.view.ty → BufTy.Contents (Elt F) arg11.view.ty → List (View.Piece (Elt F) S2x256x128 .f32)) // ∀ (E : Set ℕ) (f_arg5 : BufTy.Contents (Elt F) arg5.view.ty) (f_arg10 : BufTy.Contents (Elt F) arg10.view.ty) (f_arg11 : BufTy.Contents (Elt F) arg11.view.ty),
      Trip_k0_t3 (F := F) c arg9 arg5 arg10 arg11 X_arg9 f_arg5 f_arg10 f_arg11
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 v70 k PUnit.unit)
          (fun _ => Trip_k0_t3 (F := F) c arg9 arg5 arg10 arg11 X_arg9 (arg5.view.writes (Elt F) f_arg5 (L_arg5 f_arg5 f_arg10 f_arg11)) (arg10.view.writes (Elt F) f_arg10 (L_arg10 f_arg5 f_arg10 f_arg11)) (arg11.view.writes (Elt F) f_arg11 (L_arg11 f_arg5 f_arg10 f_arg11))) } := by
  have hk : k.val < 8 := Nat.lt_of_lt_of_le k.isLt k0_t3_abs.2.1
  refine ⟨?_, ?_, ?_, fun E f_arg5 f_arg10 f_arg11 => ?run⟩
  case run =>
    unfold k0_t3_body
    iintro ⟨HR_arg9, HW_arg5, HW_arg10, HW_arg11⟩
    sl_exec
    sl_step
    sl_close

/-- The trip's piece lists (plain projections of `trip_…`, for the recursion below to cite without
   its proof), at the contents the trip finds in the written memrefs. -/
abbrev tripL_k0_t3 (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (k : Fin k0_t3_loop.trips) (f_arg5 : BufTy.Contents (Elt F) arg5.view.ty) (f_arg10 : BufTy.Contents (Elt F) arg10.view.ty) (f_arg11 : BufTy.Contents (Elt F) arg11.view.ty) : List (View.Piece (Elt F) S256x8192 .i8) × List (View.Piece (Elt F) S32x256x256 .fp8e4m3) × List (View.Piece (Elt F) S2x256x128 .f32) :=
  ((trip_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k).1 f_arg5 f_arg10 f_arg11, (trip_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k).2.1 f_arg5 f_arg10 f_arg11, (trip_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k).2.2.1 f_arg5 f_arg10 f_arg11)

/-- Trip `k`'s contribution to the state the recursion `pb_k0_t3` below carries (`prev`): its pieces
   in front, per written memref; past the last trip, `prev` itself. -/
@[irreducible] def pb_k0_t3Step (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) (k : ℕ) (prev : List (View.Piece (Elt F) S256x8192 .i8) × List (View.Piece (Elt F) S32x256x256 .fp8e4m3) × List (View.Piece (Elt F) S2x256x128 .f32)) : List (View.Piece (Elt F) S256x8192 .i8) × List (View.Piece (Elt F) S32x256x256 .fp8e4m3) × List (View.Piece (Elt F) S2x256x128 .f32) :=
  if h : k < k0_t3_loop.trips then
    ((tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 ⟨k, h⟩ (arg5.view.writes (Elt F) G_arg5 prev.1) (arg10.view.writes (Elt F) G_arg10 prev.2.1) (arg11.view.writes (Elt F) G_arg11 prev.2.2)).1 ++ prev.1, (tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 ⟨k, h⟩ (arg5.view.writes (Elt F) G_arg5 prev.1) (arg10.view.writes (Elt F) G_arg10 prev.2.1) (arg11.view.writes (Elt F) G_arg11 prev.2.2)).2.1 ++ prev.2.1, (tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 ⟨k, h⟩ (arg5.view.writes (Elt F) G_arg5 prev.1) (arg10.view.writes (Elt F) G_arg10 prev.2.1) (arg11.view.writes (Elt F) G_arg11 prev.2.2)).2.2 ++ prev.2.2)
  else prev

/-- The pieces of the trips before `k` (last first), per written memref, starting from the contents
   `G_·` at loop entry; each trip's pieces taken at the contents the earlier trips left. -/
def pb_k0_t3 (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) : ℕ → List (View.Piece (Elt F) S256x8192 .i8) × List (View.Piece (Elt F) S32x256x256 .fp8e4m3) × List (View.Piece (Elt F) S2x256x128 .f32)
  | 0 => ([], [], [])
  | k + 1 => pb_k0_t3Step 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k (pb_k0_t3 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k)

theorem pb_k0_t3_succ (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) (k : Fin k0_t3_loop.trips) :
    pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 (k.val + 1)
      = ((tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k (arg5.view.writes (Elt F) G_arg5 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).1) (arg10.view.writes (Elt F) G_arg10 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.1) (arg11.view.writes (Elt F) G_arg11 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.2)).1 ++ (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).1, (tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k (arg5.view.writes (Elt F) G_arg5 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).1) (arg10.view.writes (Elt F) G_arg10 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.1) (arg11.view.writes (Elt F) G_arg11 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.2)).2.1 ++ (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.1, (tripL_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k (arg5.view.writes (Elt F) G_arg5 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).1) (arg10.view.writes (Elt F) G_arg10 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.1) (arg11.view.writes (Elt F) G_arg11 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.2)).2.2 ++ (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k.val).2.2) := by
  rw [pb_k0_t3.eq_2]; unfold pb_k0_t3Step; exact dif_pos k.isLt

/-- THE INVARIANT before trip `k`: arg9 read at `X_·`; arg5, arg10, arg11 holding the pieces of the
   trips before `k` written over the contents at loop entry `G_·` (stated `∃ f, … ∗ ⌜f = …⌝`, so
   that a hypothesis of any contents matches and the equation is what is proved). -/
abbrev inv_k0_t3 (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) (k : ℕ) (_u : PUnit) : sProp 𝕄G :=
  iprop((arg9.view.loc (c : Thread nD τ) ↦[arg9.view.set]{fullShare} X_arg9) ∗ (∃ f, (arg5.view.loc (c : Thread nD τ) ↦[arg5.view.set]{fullShare} f) ∗ ⌜f = arg5.view.writes (Elt F) G_arg5 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k).1⌝) ∗ (∃ f, (arg10.view.loc (c : Thread nD τ) ↦[arg10.view.set]{fullShare} f) ∗ ⌜f = arg10.view.writes (Elt F) G_arg10 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k).2.1⌝) ∗ (∃ f, (arg11.view.loc (c : Thread nD τ) ↦[arg11.view.set]{fullShare} f) ∗ ⌜f = arg11.view.writes (Elt F) G_arg11 (pb_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11 k).2.2⌝))

set_option warn.classDefReducibility false in
/-- THE LOOP BY ITS INVARIANT — generated (`@[sl_loop]`: `sl_exec` finds it meeting `k0_t3_loop`,
   fixing `X_· G_·` against the context; after the loop each written memref holds `writes G (pb …
   trips)`). -/
@[sl_loop] def loopInv_k0_t3 (𝒱 : Variants) (c : Dev nD) (bd : Option 𝒱.V) (E : Set ℕ) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole) (v70 : FVec F S1x256 .f32) (X_arg9 : BufTy.Contents (Elt F) arg9.view.ty) (G_arg5 : BufTy.Contents (Elt F) arg5.view.ty) (G_arg10 : BufTy.Contents (Elt F) arg10.view.ty) (G_arg11 : BufTy.Contents (Elt F) arg11.view.ty) :
    LoopInvTy_k0_t3 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 v70 where
  inv := inv_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 G_arg5 G_arg10 G_arg11
  step k acc := by
    iintro ⟨HR_arg9, ⟨%f_arg5, HW_arg5, %h_arg5⟩, ⟨%f_arg10, HW_arg10, %h_arg10⟩, ⟨%f_arg11, HW_arg11, %h_arg11⟩⟩
    iapply (wp_wand_r Idealize.ShloMosaic.frame (wpE (defs₀ (F := F)) 𝒱 (c : Thread nD τ) bd) E)
    isplitl [HR_arg9 HW_arg5 HW_arg10 HW_arg11]
    · iapply ((trip_k0_t3 (F := F) 𝒱 c bd arg0 harg0 arg1 harg1 arg2 harg2 arg3 harg3 arg4 harg4 arg5 harg5 arg6 harg6 arg7 harg7 arg8 harg8 arg9 harg9 arg10 harg10 arg11 harg11 v70 X_arg9 k).2.2.2 E f_arg5 f_arg10 f_arg11)
      isplitl [HR_arg9]; · iexact HR_arg9
      isplitl [HW_arg5]; · iexact HW_arg5
      isplitl [HW_arg10]; · iexact HW_arg10
      iexact HW_arg11
    · iintro %_ ⟨HR_arg9, HW_arg5, HW_arg10, HW_arg11⟩
      isplitl [HR_arg9]; · iexact HR_arg9
      rw [pb_k0_t3_succ]
      isplitl [HW_arg5]
      · iexists _; isplitl [HW_arg5]; · iexact HW_arg5
        ipureintro; rw [h_arg5, h_arg10, h_arg11, ← View.writes_append]
      isplitl [HW_arg10]
      · iexists _; isplitl [HW_arg10]; · iexact HW_arg10
        ipureintro; rw [h_arg5, h_arg10, h_arg11, ← View.writes_append]
      iexists _; isplitl [HW_arg11]; · iexact HW_arg11
      ipureintro; rw [h_arg5, h_arg10, h_arg11, ← View.writes_append]

end Cert.Proof.KernelIdeal

end
-- ==== Proof.KernelIdealRun.lean ====
/- One run of the whole body of `proofs.«01_k».proof.KernelIdeal` on any staging memrefs, each loop by its invariant: the inputs
   come back as they were, every other buffer at some contents. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 0
abbrev ms0_1 (t : Fin cfg0.N) : Memref sig .tc .vmem S32x256 .f32 := win0_1.stage (cfg0.slots t 1)
abbrev hs0_1 (t : Fin cfg0.N) : (ms0_1 t).IsWhole := hstage0_1 0
abbrev ms0_2 (t : Fin cfg0.N) : Memref sig .tc .vmem S3584x2048 .i8 := win0_2.stage (cfg0.slots t 2)
abbrev hs0_2 (t : Fin cfg0.N) : (ms0_2 t).IsWhole := hstage0_2 0
abbrev ms0_3 (t : Fin cfg0.N) : Memref sig .tc .smem S1 .f32 := win0_3.stage (cfg0.slots t 3)
abbrev hs0_3 (t : Fin cfg0.N) : (ms0_3 t).IsWhole := hstage0_3 0
abbrev ms0_4 (t : Fin cfg0.N) : Memref sig .tc .vmem S256x3584 .bf16 := win0_4.stage (cfg0.slots t 4)
abbrev hs0_4 (t : Fin cfg0.N) : (ms0_4 t).IsWhole := hstage0_4 0
abbrev ms0_5 (t : Fin cfg0.N) : Memref sig .tc .vmem S256x8192 .i8 := win0_5.stage (cfg0.slots t 5)
abbrev hs0_5 (t : Fin cfg0.N) : (ms0_5 t).IsWhole := hstage0_5 0
abbrev ms0_6 (t : Fin cfg0.N) : Memref sig .tc .vmem S2x128 .f32 := win0_6.stage (cfg0.slots t 6)
abbrev hs0_6 (t : Fin cfg0.N) : (ms0_6 t).IsWhole := hstage0_6 0
/-- The scratch operands: whole scoped buffers of the kernel's own, passed beside the windows. -/
abbrev scM0_0 : Memref sig .tc .vmem S256x256 .bf16 := Memref.whole cc0_scratch0
abbrev scM0_1 : Memref sig .tc .vmem S3x32x256 .f32 := Memref.whole cc0_scratch1
abbrev scM0_2 : Memref sig .tc .vmem S32x256x256 .f32 := Memref.whole cc0_scratch2
abbrev scM0_3 : Memref sig .tc .vmem S32x256x256 .fp8e4m3 := Memref.whole cc0_scratch3
abbrev scM0_4 : Memref sig .tc .vmem S2x256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 4000000 in
/-- The body's triple: on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)
    (x0 : Vec F S256x8192 .bf16) (x1 : Vec F S32x256 .f32) (x2 : Vec F S3584x2048 .i8) (x3 : Vec F S1 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_h_bitlinear arg0 harg0 arg1 harg1 arg2 harg2 arg3 harg3 arg4 harg4 arg5 harg5 arg6 harg6 arg7 harg7 arg8 harg8 arg9 harg9 arg10 harg10 arg11 harg11) K := by
    intro E K
    simp only [cc0_h_bitlinear_eq_skeleton]; unfold cc0_h_bitlinear_skel
    simp only [k0_part45_eq_skeleton, k0_part46_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Proof.KernelIdeal

end
-- ==== Proof.KernelIdealFrame.lean ====
/- The frame of `proofs.«01_k».proof.KernelIdeal`: the pipeline's proof data, the body obligation, the launch, and the
   claim that the argument arrays end unchanged with every counter at zero. -/
module

public import proofs.«01_k».proof.Proof.KernelIdealRun
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c _ _ _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame claim's post from a run whose outputs are forgotten: a staged input is read at its array, an array no
    window stages by the post's second clause. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- THE FRAME: `Cert.quiescent_KernelIdeal`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.KernelIdeal

end
-- ==== Proof.Butterfly.lean ====
/- The fast Walsh-Hadamard butterfly on functions of the naturals: one level, all levels of a block of 32, the pairwise
   maximum of 32 numbers. -/
module

public import Idealize.ShloMosaic.Lib.Pointwise

@[expose] public section

noncomputable section

namespace Cert.Proof

/-- One level of the butterfly, at distance `m`: the sum at the lower of two partners, the difference at the upper. -/
def lev {α : Type} [Add α] [Sub α] (m : ℕ) (v : ℕ → α) (a : ℕ) : α :=
  if a / m % 2 = 0 then v a + v (a + m) else v (a - m) - v a

/-- The five levels of the butterfly on blocks of 32. -/
def bf32 {α : Type} [Add α] [Sub α] (v : ℕ → α) : ℕ → α := lev 1 (lev 2 (lev 4 (lev 8 (lev 16 v))))

/-- The maxima of neighbouring pairs. -/
def pw (f : ℕ → EReal) (n : ℕ) : EReal := max (f (2 * n)) (f (2 * n + 1))

/-- The maximum of 32 numbers, taken pair by pair. -/
def mx32 (f : ℕ → EReal) : EReal := pw (pw (pw (pw (pw f)))) 0

/-- The absolute value of an extended real, as the larger of it and its negation. -/
def eabs (x : EReal) : EReal := max x (-x)

end Cert.Proof

end
-- ==== Proof.KernelIdealValueLib.lean ====
/- What a list of stores leaves, when they all store blocks of one function; the words that name a trip. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.Butterfly
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof

theorem iv_nat (k : ℕ) (hk : k < 32) : BitVec.toNat (Scalar.indexCast (Scf.iv 0#32 1#32 k)) = k := by
  unfold Scalar.indexCast Scf.iv
  simp; omega

theorem iv_nat8 (k : ℕ) (hk : k < 32) :
    BitVec.toNat (Scalar.indexCast (Scalar.muli (Scf.iv 0#32 1#32 k) 8#32)) = 8 * k := by
  unfold Scalar.indexCast Scf.iv Scalar.muli IntOp.muli
  simp; omega

theorem iv_nat256 (k : ℕ) (hk : k < 32) :
    BitVec.toNat (Scalar.indexCast (Scalar.muli (Scf.iv 0#32 1#32 k) 256#32)) = 256 * k := by
  unfold Scalar.indexCast Scf.iv Scalar.muli IntOp.muli
  simp; omega

section

variable {Val : EltTy → Type} {sig' : RefSig} {κ : Kind} {sp : Space} {s : Shape} {e : EltTy}

open Classical in
/-- Stores that are all blocks of `T` leave `T` where one of them stores, and the earlier contents elsewhere. -/
theorem read_writes_pieces (v : View sig' κ sp s e) (f : v.ty.Contents Val) (T : s.Idx → Val e) (y : s.Idx) :
    ∀ L : List (View.Piece Val s e), View.PiecesOf T L →
      v.read Val (v.writes Val f L) y = if ∃ r ∈ L.map Sigma.fst, y ∈ r.set then T y else v.read Val f y
  | [], _ => by rw [View.writes_nil, if_neg (by simp)]
  | p :: L, h => by
    by_cases hy : y ∈ p.1.set
    · rw [if_pos ⟨p.1, by simp, hy⟩]
      obtain ⟨r, w⟩ := p
      obtain ⟨x, rfl⟩ : ∃ x, r.emb x = y := r.exists_idx_of_mem hy
      rw [View.read_writes_cons_emb]
      exact h.1 x
    · have hy' : y ∉ Finset.univ.map p.1.emb := by rwa [Rect.map_emb_univ]
      rw [View.writes_cons, View.read_slice_write_of_not_mem p.1 _ _ _ hy', read_writes_pieces v f T y L h.2]
      have : (∃ r ∈ L.map Sigma.fst, y ∈ r.set) ↔ (∃ r ∈ (p :: L).map Sigma.fst, y ∈ r.set) := by
        constructor
        · rintro ⟨r, hr, hm⟩; exact ⟨r, List.mem_cons_of_mem _ hr, hm⟩
        · rintro ⟨r, hr, hm⟩
          rcases List.mem_cons.mp hr with rfl | hr
          · exact absurd hm hy
          · exact ⟨r, hr, hm⟩
      simp only [this]

end

/-- The 32 chunks' entries of a `[32, 256, 256]` box at one row and one token. -/
def row (A : S32x256x256.Idx → EReal) (r : Fin 256) (t : Fin 256) (c : ℕ) : EReal :=
  if h : c < 32 then A (ix3 ⟨c, h⟩ r t) else 0

/-- The butterfly across the 32 chunks. -/
def flyOf (A : S32x256x256.Idx → EReal) : S32x256x256.Idx → EReal := fun y => bf32 (row A (y 1) (y 2)) (y 0).val

end Cert.Proof.KernelIdeal

end
-- ==== Proof.KernelIdealHad.lean ====
/- The first loop by values: after it, the box holds, chunk by chunk, the sum of the three products, and the carried value
   the sums of squares. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealValueLib
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

open Cert.Proof

variable (v30 : FVec Ideal S32x256 .f32) (v37 : Vec Ideal S1x32x256 .f32)

/-- The entries of a token's row, 0 past its end. -/
def xrow (A : S256x8192.Idx → EReal) (t : Fin 256) (j : ℕ) : EReal := if h : j < 8192 then A (ix2 t ⟨j, h⟩) else 0

/-- One product: the matrix of signs, its columns scaled by a part of the gain, times a chunk of the token's row. -/
def part (X : S256x8192.Idx → EReal) (H : S256x256.Idx → EReal) (Gs : S3x32x256.Idx → EReal) (i : Fin 3) (c : Fin 32) (q t : Fin 256) : EReal :=
  ∑ k : Fin 256, (H (ix2 q k) * Gs (ix3 i c k)) * xrow X t (256 * c.val + k.val)

/-- What the first loop stores. -/
def hadOf (X : S256x8192.Idx → EReal) (H : S256x256.Idx → EReal) (Gs : S3x32x256.Idx → EReal) : S32x256x256.Idx → EReal :=
  fun y => part X H Gs 2 (y 0) (y 1) (y 2) + part X H Gs 1 (y 0) (y 1) (y 2) + part X H Gs 0 (y 0) (y 1) (y 2)

theorem hadOf_emb (X : S256x8192.Idx → EReal) (H : S256x256.Idx → EReal) (Gs : S3x32x256.Idx → EReal) (o : ℕ)
    (inb : ∀ a, (![o, 0, 0] : Fin 3 → ℕ) a + (![1, 256, 256] : Fin 3 → ℕ) a ≤ S32x256x256.size a)
    (x0 : Fin 1) (x1 : Fin 256) (x2 : Fin 256) (h : o < 32) :
    hadOf X H Gs ((Rect.unit (s := S32x256x256) ![o, 0, 0] ![1, 256, 256] inb).emb (ix3 x0 x1 x2))
      = part X H Gs 2 ⟨o, h⟩ x1 x2 + part X H Gs 1 ⟨o, h⟩ x1 x2 + part X H Gs 0 ⟨o, h⟩ x1 x2 := by
  have e0 : (Rect.unit (s := S32x256x256) ![o, 0, 0] ![1, 256, 256] inb).emb (ix3 x0 x1 x2) 0 = (⟨o, h⟩ : Fin 32) := Fin.ext (by show o + 1 * x0.val = _; simp)
  have e1 : (Rect.unit (s := S32x256x256) ![o, 0, 0] ![1, 256, 256] inb).emb (ix3 x0 x1 x2) 1 = x1 := Fin.ext (by show 0 + 1 * x1.val = _; omega)
  have e2 : (Rect.unit (s := S32x256x256) ![o, 0, 0] ![1, 256, 256] inb).emb (ix3 x0 x1 x2) 2 = x2 := Fin.ext (by show 0 + 1 * x2.val = _; omega)
  unfold hadOf
  rw [e0, e1, e2]

set_option maxHeartbeats 2000000 in
theorem had_pieces (X0) (X7) (X8) (acc) (k : Fin k0_t1_loop.trips) :
    View.PiecesOf (hadOf (arg0.view.read (Elt Ideal) X0) (arg7.view.read (Elt Ideal) X7) (arg8.view.read (Elt Ideal) X8))
      (tripL_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 X7 X8 k acc) := by
  have hk : k.val < 32 := Nat.lt_of_lt_of_le k.isLt k0_t1_abs.2.1
  have ho := iv_nat _ hk
  have ho2 := iv_nat256 _ hk
  unfold tripL_k0_t1 trip_k0_t1
  sl_unfold_words
  dsimp only
  simp only [View.readAt_eq_ld]
  generalize View.read (Elt Ideal) arg0.view X0 = A0
  generalize View.read (Elt Ideal) arg7.view X7 = A7
  generalize View.read (Elt Ideal) arg8.view X8 = A8
  refine ⟨fun x => ?_, trivial⟩
  idx_vars x
  refine Eq.trans ?_ (hadOf_emb A0 A7 A8 _ _ x0 x1 x2 (by omega)).symm
  unfold_payloads
  pointwise
  have hx : ∀ x : Fin 256, xrow A0 x2 (256 * k.val + x.val) = A0 (ix2 x2 ⟨256 * k.val + x.val, by omega⟩) := fun x => dif_pos (by omega)
  simp only [part, ho, ho2, hx]

/-- A trip stores its own chunk of the box. -/
theorem had_mem (X0) (X7) (X8) (acc) (k : Fin k0_t1_loop.trips) (y : S32x256x256.Idx) :
    (∃ r ∈ (tripL_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 X7 X8 k acc).map Sigma.fst, y ∈ r.set) ↔ (y 0).val = k.val := by
  have hk : k.val < 32 := Nat.lt_of_lt_of_le k.isLt k0_t1_abs.2.1
  have ho := iv_nat _ hk
  unfold tripL_k0_t1 trip_k0_t1
  sl_unfold_words
  dsimp only
  simp only [List.map_cons, List.map_nil, List.mem_singleton, exists_eq_left]
  constructor
  · intro hn
    have h1 := (Rect.mem_set_unit ..).mp hn 0
    simp only [Matrix.cons_val_zero] at h1
    omega
  · intro h
    refine (Rect.mem_set_unit ..).mpr fun a => ?_
    have b1 : (y 1).val < 256 := (y 1).isLt
    have b2 : (y 2).val < 256 := (y 2).isLt
    match a with
    | 0 => show BitVec.toNat (Scalar.indexCast (Scf.iv 0#32 1#32 k.val)) ≤ (y 0).val ∧ (y 0).val < BitVec.toNat (Scalar.indexCast (Scf.iv 0#32 1#32 k.val)) + 1; omega
    | 1 => show 0 ≤ (y 1).val ∧ (y 1).val < 0 + 256; omega
    | 2 => show 0 ≤ (y 2).val ∧ (y 2).val < 0 + 256; omega

/-- What a trip yields: the carried sum and the chunk's two squares. -/
theorem had_yield (X0) (X7) (X8) (acc : FVec Ideal S256x128 .f32) (k : Fin k0_t1_loop.trips) (t : Fin 256) (l : Fin 128) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 X7 X8 k acc (ix2 t l)
      = acc (ix2 t l) + xrow (arg0.view.read (Elt Ideal) X0) t (256 * k.val + l.val) * xrow (arg0.view.read (Elt Ideal) X0) t (256 * k.val + l.val)
        + xrow (arg0.view.read (Elt Ideal) X0) t (256 * k.val + (128 + l.val)) * xrow (arg0.view.read (Elt Ideal) X0) t (256 * k.val + (128 + l.val)) := by
  have hk : k.val < 32 := Nat.lt_of_lt_of_le k.isLt k0_t1_abs.2.1
  have ho2 := iv_nat256 _ hk
  unfold tripR_k0_t1 trip_k0_t1
  sl_unfold_words
  dsimp only
  simp only [View.readAt_eq_ld]
  generalize View.read (Elt Ideal) arg0.view X0 = A0
  have h1 : xrow A0 t (256 * k.val + l.val) = A0 (ix2 t ⟨256 * k.val + l.val, by omega⟩) := dif_pos (by omega)
  have h2 : xrow A0 t (256 * k.val + (128 + l.val)) = A0 (ix2 t ⟨256 * k.val + (128 + l.val), by omega⟩) := dif_pos (by omega)
  rw [h1, h2]
  unfold_payloads
  pointwise
  simp only [ho2, zero_add]

/-- The first loop after `n` trips. -/
theorem had_loop (G9) (X0) (X7) (X8) (init : FVec Ideal S256x128 .f32) (n : ℕ) (hn : n ≤ 32) :
    (∀ y, arg9.view.read (Elt Ideal) (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 X7 X8 init n).2) y
      = if (y 0).val < n then hadOf (arg0.view.read (Elt Ideal) X0) (arg7.view.read (Elt Ideal) X7) (arg8.view.read (Elt Ideal) X8) y
        else arg9.view.read (Elt Ideal) G9 y)
    ∧ ∀ (t : Fin 256) (l : Fin 128), (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 X7 X8 init n).1 (ix2 t l)
      = init (ix2 t l) + ∑ k ∈ Finset.range n,
          (xrow (arg0.view.read (Elt Ideal) X0) t (256 * k + l.val) * xrow (arg0.view.read (Elt Ideal) X0) t (256 * k + l.val)
          + xrow (arg0.view.read (Elt Ideal) X0) t (256 * k + (128 + l.val)) * xrow (arg0.view.read (Elt Ideal) X0) t (256 * k + (128 + l.val))) := by
  induction n with
  | zero =>
    refine ⟨fun y => ?_, fun t l => ?_⟩
    · rw [if_neg (by omega)]; rfl
    · rw [Finset.sum_range_zero, add_zero]; rfl
  | succ n ih =>
    obtain ⟨ih1, ih2⟩ := ih (by omega)
    have ht : n < k0_t1_loop.trips := by have : k0_t1_loop.trips = 32 := by decide +kernel
                                         omega
    have hs := st_k0_t1_succ (F := Ideal) 𝒱 c bd arg0 harg0 arg1 harg1 arg2 harg2 arg3 harg3 arg4 harg4 arg5 harg5 arg6 harg6 arg7 harg7 arg8 harg8 arg9 harg9 arg10 harg10 arg11 harg11 v30 v37 X0 X7 X8 init ⟨n, ht⟩
    dsimp only at hs
    rw [hs]
    refine ⟨fun y => ?_, fun t l => ?_⟩
    · dsimp only
      rw [View.writes_append, read_writes_pieces _ _ _ _ _ (had_pieces ..)]
      simp only [had_mem, ih1]
      by_cases h1 : (y 0).val = n
      · rw [if_pos h1, if_pos (by omega)]
      · rw [if_neg h1]
        by_cases h2 : (y 0).val < n
        · rw [if_pos h2, if_pos (by omega)]
        · rw [if_neg h2, if_neg (by omega)]
    · dsimp only
      rw [had_yield, ih2, Finset.sum_range_succ, add_assoc, add_assoc]

end Cert.Proof.KernelIdeal

end
-- ==== Proof.HadMath.lean ====
/- The butterfly as a transform: over the reals it is the sum with the Walsh signs; on the extended reals one infinite entry
   makes every output infinite. The two orders of the levels agree. -/
module

public import proofs.«01_k».proof.Proof.Butterfly
public import Mathlib.Tactic.Ring
public import Mathlib.Tactic.IntervalCases
public import Mathlib.Tactic.Positivity
public import Mathlib.Algebra.BigOperators.Intervals

@[expose] public section

noncomputable section

namespace Cert.Proof

open Idealize.ShloMosaic

/-- The butterfly's levels at distances `2 ^ (B - 1)` down to 1. -/
def levs {α : Type} [Add α] [Sub α] : ℕ → (ℕ → α) → ℕ → α
  | 0, v => v
  | B + 1, v => levs B (lev (2 ^ B) v)

theorem bf32_eq {α : Type} [Add α] [Sub α] (v : ℕ → α) : bf32 v = levs 5 v := rfl

/-- The Walsh sign of two numbers of `B` bits: -1 to the number of bits they share. -/
def sg : ℕ → ℕ → ℕ → ℤ
  | 0, _, _ => 1
  | B + 1, i, j => sg B i j * if i / 2 ^ B % 2 = 1 ∧ j / 2 ^ B % 2 = 1 then -1 else 1

theorem sg_succ (B i j : ℕ) : sg (B + 1) i j = sg B i j * if i / 2 ^ B % 2 = 1 ∧ j / 2 ^ B % 2 = 1 then -1 else 1 := rfl

theorem sg_congr (B : ℕ) : ∀ {i i' j j' : ℕ}, (∀ b < B, i / 2 ^ b % 2 = i' / 2 ^ b % 2) → (∀ b < B, j / 2 ^ b % 2 = j' / 2 ^ b % 2) →
    sg B i j = sg B i' j' := by
  induction B with
  | zero => intros; rfl
  | succ B ih =>
    intro i i' j j' hi hj
    rw [sg, sg, ih (fun b hb => hi b (by omega)) (fun b hb => hj b (by omega)), hi B (by omega), hj B (by omega)]

theorem bit_add (b B j : ℕ) (hb : b < B) : (2 ^ B + j) / 2 ^ b % 2 = j / 2 ^ b % 2 := by
  obtain ⟨d, rfl⟩ : ∃ d, B = b + 1 + d := ⟨B - (b + 1), by omega⟩
  have : 2 ^ (b + 1 + d) + j = j + 2 ^ b * (2 * 2 ^ d) := by ring
  rw [this, Nat.add_mul_div_left _ _ (by positivity)]
  omega

theorem levs_real (B : ℕ) : ∀ (v : ℕ → ℝ) (i : ℕ),
    levs B v i = ∑ j ∈ Finset.range (2 ^ B), (sg B i j : ℝ) * v (i / 2 ^ B * 2 ^ B + j) := by
  induction B with
  | zero => intro v i; simp [levs, sg]
  | succ B ih =>
    intro v i
    have hp : 0 < 2 ^ B := by positivity
    have hs : i / 2 ^ (B + 1) = i / 2 ^ B / 2 := by rw [pow_succ, Nat.div_div_eq_div_mul]
    rw [levs, ih, hs]
    rw [show 2 ^ (B + 1) = 2 ^ B + 2 ^ B by ring, Finset.sum_range_add, ← Finset.sum_add_distrib]
    refine Finset.sum_congr rfl fun j hj => ?_
    have hj := Finset.mem_range.mp hj
    have h1 : sg (B + 1) i j = sg B i j := by
      rw [sg, Nat.div_eq_of_lt hj]; simp
    have h2 : sg (B + 1) i (2 ^ B + j) = sg B i j * if i / 2 ^ B % 2 = 1 then -1 else 1 := by
      rw [sg, sg_congr B (fun _ _ => rfl) (fun b hb => bit_add b B j hb)]
      have : (2 ^ B + j) / 2 ^ B % 2 = 1 := by
        rw [Nat.add_div_left _ hp, Nat.div_eq_of_lt hj]
      simp only [this, and_true]
    rw [h1, h2]
    have hd : (i / 2 ^ B * 2 ^ B + j) / 2 ^ B = i / 2 ^ B := by
      rw [Nat.add_comm, Nat.add_mul_div_right _ _ hp, Nat.div_eq_of_lt hj, Nat.zero_add]
    unfold lev
    rw [hd]
    generalize i / 2 ^ B = q
    rcases Nat.mod_two_eq_zero_or_one q with h | h
    · obtain ⟨p, rfl⟩ : ∃ p, q = 2 * p := ⟨q / 2, by omega⟩
      have e1 : 2 * p / 2 * (2 ^ B + 2 ^ B) + j = 2 * p * 2 ^ B + j := by
        rw [Nat.mul_div_cancel_left _ (by norm_num)]; ring
      have e2 : 2 * p / 2 * (2 ^ B + 2 ^ B) + (2 ^ B + j) = 2 * p * 2 ^ B + j + 2 ^ B := by
        rw [Nat.mul_div_cancel_left _ (by norm_num)]; ring
      rw [e1, e2]
      simp only [h, ↓reduceIte]
      push_cast
      simp
      ring
    · obtain ⟨p, rfl⟩ : ∃ p, q = 2 * p + 1 := ⟨q / 2, by omega⟩
      have e1 : (2 * p + 1) / 2 * (2 ^ B + 2 ^ B) + j = (2 * p + 1) * 2 ^ B + j - 2 ^ B := by
        rw [show (2 * p + 1) / 2 = p by omega]
        have : (2 * p + 1) * 2 ^ B + j = (p * (2 ^ B + 2 ^ B) + j) + 2 ^ B := by ring
        rw [this]; simp
      have e2 : (2 * p + 1) / 2 * (2 ^ B + 2 ^ B) + (2 ^ B + j) = (2 * p + 1) * 2 ^ B + j := by
        rw [show (2 * p + 1) / 2 = p by omega]; ring
      rw [e1, e2]
      simp only [h]
      push_cast
      simp
      ring

theorem levs_coe (B : ℕ) : ∀ (v : ℕ → ℝ), levs B (fun j => (v j : EReal)) = fun i => ((levs B v i : ℝ) : EReal) := by
  induction B with
  | zero => intro v; rfl
  | succ B ih =>
    intro v
    have : lev (2 ^ B) (fun j => (v j : EReal)) = fun j => ((lev (2 ^ B) v j : ℝ) : EReal) := by
      funext a; unfold lev; split <;> push_cast <;> rfl
    rw [levs, levs, this, ih]

/-- An infinite extended real. -/
def Inf (x : EReal) : Prop := x = ⊤ ∨ x = ⊥

theorem Inf.add_left {x : EReal} (h : Inf x) (y : EReal) : Inf (x + y) := by
  rcases h with rfl | rfl
  · induction y <;> simp [Inf]
  · simp [Inf]

theorem Inf.add_right {y : EReal} (h : Inf y) (x : EReal) : Inf (x + y) := by
  rw [add_comm]; exact h.add_left x

theorem Inf.neg {x : EReal} (h : Inf x) : Inf (-x) := by
  rcases h with rfl | rfl <;> simp [Inf]

theorem Inf.sub_left {x : EReal} (h : Inf x) (y : EReal) : Inf (x - y) := by
  rw [sub_eq_add_neg]; exact h.add_left _

theorem Inf.sub_right {y : EReal} (h : Inf y) (x : EReal) : Inf (x - y) := by
  rw [sub_eq_add_neg]; exact h.neg.add_right _

theorem Inf.mul_real {x : EReal} (h : Inf x) {r : ℝ} (hr : r ≠ 0) : Inf (x * r) := by
  rcases lt_or_gt_of_ne hr with h0 | h0 <;> rcases h with rfl | rfl
  · right; exact EReal.top_mul_coe_of_neg h0
  · left; exact EReal.bot_mul_coe_of_neg h0
  · left; exact EReal.top_mul_coe_of_pos h0
  · right; exact EReal.bot_mul_coe_of_pos h0

theorem Inf.eabs {x : EReal} (h : Inf x) : eabs x = ⊤ := by
  rcases h with rfl | rfl <;> simp [Cert.Proof.eabs]

theorem Inf.sum {ι : Type} (s : Finset ι) (f : ι → EReal) {i : ι} (hi : i ∈ s) (h : Inf (f i)) : Inf (∑ k ∈ s, f k) := by
  classical
  rw [← Finset.add_sum_erase s f hi]
  exact h.add_left _

theorem levs_inf (B : ℕ) : ∀ (v : ℕ → EReal) (i j : ℕ), j < 2 ^ B → Inf (v (i / 2 ^ B * 2 ^ B + j)) → Inf (levs B v i) := by
  induction B with
  | zero =>
    intro v i j hj h
    have : j = 0 := by simpa using hj
    subst this
    simpa [levs] using h
  | succ B ih =>
    intro v i j hj h
    have hp : 0 < 2 ^ B := by positivity
    have hs : i / 2 ^ (B + 1) = i / 2 ^ B / 2 := by rw [pow_succ, Nat.div_div_eq_div_mul]
    rw [hs] at h
    rw [levs]
    have hjm : j % 2 ^ B < 2 ^ B := Nat.mod_lt _ hp
    refine ih _ i (j % 2 ^ B) hjm ?_
    have hd : (i / 2 ^ B * 2 ^ B + j % 2 ^ B) / 2 ^ B = i / 2 ^ B := by
      rw [Nat.add_comm, Nat.add_mul_div_right _ _ hp, Nat.div_eq_of_lt hjm, Nat.zero_add]
    unfold lev
    rw [hd]
    have hp2 : 2 ^ (B + 1) = 2 ^ B + 2 ^ B := by ring
    have hj2 : j = j % 2 ^ B ∨ j = j % 2 ^ B + 2 ^ B := by
      rcases Nat.lt_or_ge j (2 ^ B) with h | h
      · left; rw [Nat.mod_eq_of_lt h]
      · right
        rw [Nat.mod_eq_sub_mod h, Nat.mod_eq_of_lt (by omega)]; omega
    revert h
    generalize i / 2 ^ B = q
    generalize j % 2 ^ B = k at *
    rw [hp2]
    intro h
    rcases Nat.mod_two_eq_zero_or_one q with hq | hq
    · obtain ⟨p, rfl⟩ : ∃ p, q = 2 * p := ⟨q / 2, by omega⟩
      rw [Nat.mul_div_cancel_left _ (by norm_num)] at h
      have e : 2 * p * 2 ^ B + k = p * (2 ^ B + 2 ^ B) + k := by ring
      rw [if_pos hq, e]
      rcases hj2 with hj2 | hj2
      · rw [hj2] at h; exact h.add_left _
      · rw [hj2, ← Nat.add_assoc] at h; exact h.add_right _
    · obtain ⟨p, rfl⟩ : ∃ p, q = 2 * p + 1 := ⟨q / 2, by omega⟩
      rw [show (2 * p + 1) / 2 = p by omega] at h
      have e : (2 * p + 1) * 2 ^ B + k = p * (2 ^ B + 2 ^ B) + (k + 2 ^ B) := by ring
      have e' : p * (2 ^ B + 2 ^ B) + (k + 2 ^ B) - 2 ^ B = p * (2 ^ B + 2 ^ B) + k := by omega
      rw [if_neg (by omega), e, e']
      rcases hj2 with hj2 | hj2
      · rw [hj2] at h; exact h.sub_left _
      · rw [hj2] at h; exact h.sub_right _

theorem levs_zero (B : ℕ) : ∀ i, levs B (fun _ => (0 : EReal)) i = 0 := by
  induction B with
  | zero => intro i; rfl
  | succ B ih =>
    intro i
    have : lev (2 ^ B) (fun _ => (0 : EReal)) = fun _ => 0 := by funext a; unfold lev; simp
    rw [levs, this, ih]

/-- The Walsh signs of 13 bits: those of the upper 5 times those of the lower 8. -/
theorem sg_split (c c' p k : ℕ) (hp : p < 256) (hk : k < 256) :
    sg 13 (256 * c + p) (256 * c' + k) = sg 5 c c' * sg 8 p k := by
  have hi : ∀ b, b < 5 → ∀ x y : ℕ, y < 256 → (256 * x + y) / 2 ^ (8 + b) = x / 2 ^ b := by
    intro b _ x y hy
    rw [pow_add, ← Nat.div_div_eq_div_mul, show (256 * x + y) / 2 ^ 8 = x by norm_num; omega]
  have hl : sg 8 (256 * c + p) (256 * c' + k) = sg 8 p k := by
    refine sg_congr 8 (fun b hb => ?_) (fun b hb => ?_) <;> interval_cases b <;> norm_num <;> omega
  have h5 : ∀ b, b ≤ 5 → sg (8 + b) (256 * c + p) (256 * c' + k) = sg b c c' * sg 8 p k := by
    intro b
    induction b with
    | zero => intro _; simpa [sg] using hl
    | succ b ih =>
      intro hb
      rw [show 8 + (b + 1) = (8 + b) + 1 by omega, sg_succ (8 + b), ih (by omega), hi b (by omega) c p hp, hi b (by omega) c' k hk, sg_succ b]
      ring
  exact h5 5 le_rfl

theorem sum_split {M : Type} [AddCommMonoid M] (f : ℕ → M) :
    ∑ j ∈ Finset.range 8192, f j = ∑ c ∈ Finset.range 32, ∑ k ∈ Finset.range 256, f (256 * c + k) := by
  have : ∀ n, ∑ j ∈ Finset.range (256 * n), f j = ∑ c ∈ Finset.range n, ∑ k ∈ Finset.range 256, f (256 * c + k) := by
    intro n
    induction n with
    | zero => simp
    | succ n ih => rw [Nat.mul_succ, Finset.sum_range_add, ih, Finset.sum_range_succ (fun c => ∑ k ∈ Finset.range 256, f (256 * c + k)) n]
  exact this 32

end Cert.Proof

end
-- ==== Proof.TokenMath.lean ====
/- One token of the layer, both ways: the kernel's transform (signs inside a chunk of 256, the butterfly across the 32 chunks, the
   norm's factor taken out) against the reference's (all 13 levels of the butterfly on the normed row). Their scales agree, and
   so do the quotients that are rounded to codes. -/
module

public import proofs.«01_k».proof.Proof.HadMath
public import Idealize.ShloMosaic.PureOps.Ideal
public import Mathlib.Tactic.FieldSimp

@[expose] public section

noncomputable section

namespace Cert.Proof

open Idealize.ShloMosaic

/-- The Walsh index that position `p` of a chunk holds. -/
def walsh (p : ℕ) : ℕ := 4 * (p % 64) + p / 64

theorem walsh_lt {p : ℕ} (h : p < 256) : walsh p < 256 := by unfold walsh; omega

theorem walsh_onto (i : ℕ) (h : i < 8192) : ∃ c < 32, ∃ p < 256, 256 * c + walsh p = i :=
  ⟨i / 256, by omega, 64 * (i % 4) + i % 256 / 4, by omega, by
    have h1 : (64 * (i % 4) + i % 256 / 4) % 64 = i % 256 / 4 := by omega
    have h2 : (64 * (i % 4) + i % 256 / 4) / 64 = i % 4 := by omega
    unfold walsh; rw [h1, h2]; omega⟩

/-- The sign of the kernel's matrix at row `p` and column `k`. -/
def sgE (p k : ℕ) : EReal := (((sg 8 (walsh p) k : ℤ) : ℝ) : EReal)

/-- What the kernel's three products leave at chunk `c`, position `p`. -/
def chunk (x g : ℕ → EReal) (c p : ℕ) : EReal :=
  (∑ k ∈ Finset.range 256, (sgE p k * (g (256 * c + k) - g (256 * c + k) - (g (256 * c + k) - g (256 * c + k)))) * x (256 * c + k)
    + ∑ k ∈ Finset.range 256, (sgE p k * (g (256 * c + k) - g (256 * c + k))) * x (256 * c + k))
    + ∑ k ∈ Finset.range 256, (sgE p k * g (256 * c + k)) * x (256 * c + k)

/-- The kernel's transform at chunk `c`, position `p`. -/
def had (x g : ℕ → EReal) (c p : ℕ) : EReal := bf32 (fun c' => if c' < 32 then chunk x g c' p else 0) c

/-- The reference's transform at `i`. -/
def refHad (x g : ℕ → EReal) (rms nrm : EReal) (i : ℕ) : EReal :=
  levs 13 (fun j => if j < 8192 then x j * rms * g j else 0) i * nrm

theorem eabs_coe (r : ℝ) : eabs (r : EReal) = ((|r| : ℝ) : EReal) := by
  unfold eabs
  rw [← EReal.coe_neg, abs_eq_max_neg]
  rcases le_total r (-r) with h | h
  · rw [max_eq_right h, max_eq_right (EReal.coe_le_coe_iff.mpr h)]
  · rw [max_eq_left h, max_eq_left (EReal.coe_le_coe_iff.mpr h)]

theorem eabs_zero : eabs 0 = 0 := by simp [eabs]

theorem sg_ne (B i j : ℕ) : sg B i j ≠ 0 := by
  induction B with
  | zero => simp [sg]
  | succ B ih => rw [sg]; split <;> simp [ih]

theorem inf_of_not_real {g : EReal} (h : ¬ ∃ r : ℝ, g = r) : Inf g := by
  induction g with
  | bot => right; rfl
  | top => left; rfl
  | coe r => exact absurd ⟨r, rfl⟩ h

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- An infinite product somewhere makes the kernel's transform infinite everywhere. -/
theorem had_inf (x g : ℕ → EReal) {j : ℕ} (hj : j < 8192) {r : ℝ} (hr : r ≠ 0) (hx : x j = r) (hg : Inf (g j)) (c p : ℕ) (hc : c < 32) :
    Inf (had x g c p) := by
  unfold had
  rw [bf32_eq]
  refine levs_inf 5 _ c (j / 256) (by omega) ?_
  rw [Nat.div_eq_of_lt (by omega : c < 2 ^ 5), Nat.zero_mul, Nat.zero_add, if_pos (by omega)]
  unfold chunk
  refine Inf.add_right (Inf.sum _ _ (i := j % 256) (Finset.mem_range.mpr (by omega)) ?_) _
  rw [show 256 * (j / 256) + j % 256 = j by omega, hx, mul_comm (sgE _ _)]
  unfold sgE
  exact (hg.mul_real (Int.cast_ne_zero.mpr (sg_ne _ _ _))).mul_real hr

theorem refHad_inf (x g : ℕ → EReal) {ρ ν : ℝ} (hρ : 0 < ρ) (hν : 0 < ν) {j : ℕ} (hj : j < 8192) {r : ℝ} (hr : r ≠ 0) (hx : x j = r) (hg : Inf (g j))
    (i : ℕ) (hi : i < 8192) : Inf (refHad x g ρ ν i) := by
  unfold refHad
  refine Inf.mul_real ?_ hν.ne'
  refine levs_inf 13 _ i j (by omega) ?_
  rw [Nat.div_eq_of_lt (by omega : i < 2 ^ 13), Nat.zero_mul, Nat.zero_add, if_pos hj, hx, ← EReal.coe_mul, mul_comm]
  exact hg.mul_real (mul_ne_zero hr hρ.ne')

/-- The real transform. -/
def tr (t : ℕ → ℝ) (i : ℕ) : ℝ := ∑ j ∈ Finset.range 8192, (sg 13 i j : ℝ) * t j

/-- Where every product is finite, the kernel's transform is the real one. -/
theorem had_real (x g : ℕ → EReal) (xr : ℕ → ℝ) (hx : ∀ j, x j = xr j) (hg : ∀ j < 8192, xr j = 0 ∨ ∃ r : ℝ, g j = r)
    (c p : ℕ) (hc : c < 32) (hp : p < 256) :
    had x g c p = ((tr (fun j => xr j * (g j).toReal) (256 * c + walsh p) : ℝ) : EReal) := by
  have hch : ∀ c' < 32, chunk x g c' p = ((∑ k ∈ Finset.range 256, (sg 8 (walsh p) k : ℝ) * (xr (256 * c' + k) * (g (256 * c' + k)).toReal) : ℝ) : EReal) := by
    intro c' hc'
    have hz : ∀ k ∈ Finset.range 256, (sgE p k * (g (256 * c' + k) - g (256 * c' + k))) * x (256 * c' + k) = 0 := by
      intro k hk
      have hk := Finset.mem_range.mp hk
      rcases hg (256 * c' + k) (by omega) with h | ⟨r, h⟩
      · rw [hx, h]; simp
      · rw [h, ← EReal.coe_sub, sub_self]; simp
    have hz' : ∀ k ∈ Finset.range 256, (sgE p k * (g (256 * c' + k) - g (256 * c' + k) - (g (256 * c' + k) - g (256 * c' + k)))) * x (256 * c' + k) = 0 := by
      intro k hk
      have hk := Finset.mem_range.mp hk
      rcases hg (256 * c' + k) (by omega) with h | ⟨r, h⟩
      · rw [hx, h]; simp
      · rw [h, ← EReal.coe_sub, sub_self, ← EReal.coe_sub, sub_self]; simp
    unfold chunk
    rw [Finset.sum_eq_zero hz, Finset.sum_eq_zero hz', zero_add, zero_add, ← coe_sum]
    refine Finset.sum_congr rfl fun k hk => ?_
    have hk := Finset.mem_range.mp hk
    rcases hg (256 * c' + k) (by omega) with h | ⟨r, h⟩
    · rw [hx, h]; simp
    · rw [hx, h, EReal.toReal_coe]
      unfold sgE
      push_cast
      rw [mul_assoc, mul_comm (r : EReal)]
  unfold had
  have hfun : (fun c' => if c' < 32 then chunk x g c' p else 0) = fun c' => (((if c' < 32 then ∑ k ∈ Finset.range 256, (sg 8 (walsh p) k : ℝ) * (xr (256 * c' + k) * (g (256 * c' + k)).toReal) else 0 : ℝ)) : EReal) := by
    funext c'
    split
    · rename_i h; rw [hch c' h]
    · rfl
  rw [hfun, bf32_eq, levs_coe]
  refine congrArg _ ?_
  rw [levs_real]
  unfold tr
  rw [sum_split, Nat.div_eq_of_lt (by omega : c < 2 ^ 5)]
  refine Finset.sum_congr rfl fun c' hc' => ?_
  have hc' := Finset.mem_range.mp hc'
  rw [Nat.zero_mul, Nat.zero_add, if_pos (by omega), Finset.mul_sum]
  refine Finset.sum_congr rfl fun k hk => ?_
  rw [sg_split c c' (walsh p) k (walsh_lt hp) (Finset.mem_range.mp hk)]
  push_cast
  ring

/-- Where every product is finite, the reference's transform is the real one times the two factors. -/
theorem refHad_real (x g : ℕ → EReal) (xr : ℕ → ℝ) (hx : ∀ j, x j = xr j) (hg : ∀ j < 8192, xr j = 0 ∨ ∃ r : ℝ, g j = r)
    (ρ ν : ℝ) (i : ℕ) (hi : i < 8192) :
    refHad x g ρ ν i = ((tr (fun j => xr j * (g j).toReal) i * (ρ * ν) : ℝ) : EReal) := by
  unfold refHad
  have hfun : (fun j => if j < 8192 then x j * (ρ : EReal) * g j else 0) = fun j => (((if j < 8192 then ρ * (xr j * (g j).toReal) else 0 : ℝ)) : EReal) := by
    funext j
    split
    · rename_i h
      rcases hg j h with h | ⟨r, h⟩
      · rw [hx, h]; simp
      · rw [hx, h, EReal.toReal_coe]; push_cast; rw [mul_comm (xr j : EReal), mul_assoc]
    · rfl
  rw [hfun, levs_coe, ← EReal.coe_mul]
  refine congrArg _ ?_
  rw [levs_real]
  unfold tr
  rw [Nat.div_eq_of_lt (by omega : i < 2 ^ 13), Finset.sum_mul, Finset.sum_mul]
  refine Finset.sum_congr rfl fun j hj => ?_
  rw [Nat.zero_mul, Nat.zero_add, if_pos (Finset.mem_range.mp hj)]
  ring

/-- The kernel's and the reference's scale and quotients at one token. `rms` is either 0 (some entry is infinite) or a positive
    real, the entries being real. -/
theorem token (x g : ℕ → EReal) (rms : EReal) (ν : ℝ) (hν : 0 < ν)
    (hr : rms = 0 ∨ ∃ ρ : ℝ, 0 < ρ ∧ rms = ρ ∧ ∃ xr : ℕ → ℝ, ∀ j, x j = xr j)
    (gm ar : EReal)
    (hub : ∀ c < 32, ∀ p < 256, eabs (had x g c p) ≤ gm) (hat : ∃ c < 32, ∃ p < 256, gm = eabs (had x g c p))
    (rub : ∀ i < 8192, eabs (refHad x g rms ν i) ≤ ar) (rat : ∃ i < 8192, ar = eabs (refHad x g rms ν i)) :
    gm * rms * ν = ar ∧ ∀ c < 32, ∀ p < 256,
      had x g c p * (if ar = 0 then 0 else Ideal.div 7 gm)
        = Ideal.div (refHad x g rms ν (256 * c + walsh p)) (if ar = 0 then 1 else Ideal.div ar 7) := by
  have h7 : ((7 : ℝ) : EReal) = 7 := rfl
  have d1 : ∀ z : EReal, Ideal.div z 1 = z := by
    intro z; unfold Ideal.div; rw [if_neg (by simp), inv_one, mul_one]
  rcases hr with rfl | ⟨ρ, hρ, rfl, xr, hx⟩
  · have hz : ∀ i, refHad x g 0 ν i = 0 := by
      intro i
      have : (fun j => if j < 8192 then x j * 0 * g j else 0) = fun _ => (0 : EReal) := by
        funext j; split <;> simp
      unfold refHad
      rw [this, levs_zero]; simp
    obtain ⟨i, -, rfl⟩ := rat
    rw [hz, eabs_zero]
    refine ⟨by simp, fun c _ p _ => ?_⟩
    rw [hz, if_pos rfl, if_pos rfl, d1, mul_zero]
  · by_cases hbad : ∃ j < 8192, xr j ≠ 0 ∧ Inf (g j)
    · obtain ⟨j, hj, hxj, hgj⟩ := hbad
      obtain ⟨c₀, hc₀, p₀, hp₀, rfl⟩ := hat
      obtain ⟨i, hi, rfl⟩ := rat
      rw [(had_inf x g hj hxj (hx j) hgj c₀ p₀ hc₀).eabs, (refHad_inf x g hρ hν hj hxj (hx j) hgj i hi).eabs,
        EReal.top_mul_coe_of_pos hρ, EReal.top_mul_coe_of_pos hν]
      refine ⟨rfl, fun c hc p hp => ?_⟩
      have e1 : Ideal.div 7 ⊤ = 0 := by unfold Ideal.div; rw [if_neg (by simp), EReal.inv_top, mul_zero]
      have e2 : Ideal.div ⊤ 7 = ⊤ := by
        unfold Ideal.div
        rw [if_neg (by rw [← h7]; exact_mod_cast (by norm_num : (7 : ℝ) ≠ 0)), ← h7, ← EReal.coe_inv]
        exact EReal.top_mul_coe_of_pos (by norm_num)
      have e3 : ∀ z : EReal, Ideal.div z ⊤ = 0 := by
        intro z; unfold Ideal.div; rw [if_neg (by simp), EReal.inv_top, mul_zero]
      rw [if_neg (by simp), if_neg (by simp), e1, e2, e3, mul_zero]
    · have hg : ∀ j < 8192, xr j = 0 ∨ ∃ r : ℝ, g j = r := by
        intro j hj
        by_cases h0 : xr j = 0
        · exact Or.inl h0
        · right
          by_contra hc
          exact hbad ⟨j, hj, h0, inf_of_not_real hc⟩
      have hh := had_real x g xr hx hg
      have hrh := refHad_real x g xr hx hg ρ ν
      generalize tr (fun j => xr j * (g j).toReal) = W at hh hrh
      have hk : 0 < ρ * ν := mul_pos hρ hν
      obtain ⟨c₀, hc₀, p₀, hp₀, hgm⟩ := hat
      obtain ⟨i₀, hi₀, har⟩ := rat
      rw [hh c₀ p₀ hc₀ hp₀, eabs_coe] at hgm
      rw [hrh i₀ hi₀, eabs_coe, abs_mul, abs_of_pos hk] at har
      have hw0 : 0 ≤ |W (256 * c₀ + walsh p₀)| := abs_nonneg _
      have hW : ∀ c < 32, ∀ p < 256, |W (256 * c + walsh p)| ≤ |W (256 * c₀ + walsh p₀)| := by
        intro c hc p hp
        have := hub c hc p hp
        rw [hh c p hc hp, eabs_coe, hgm] at this
        exact_mod_cast this
      have heq : |W i₀| = |W (256 * c₀ + walsh p₀)| := by
        obtain ⟨c, hc, p, hp, hi⟩ := walsh_onto i₀ hi₀
        refine le_antisymm (hi ▸ hW c hc p hp) ?_
        have hlt : 256 * c₀ + walsh p₀ < 8192 := by have := walsh_lt hp₀; omega
        have := rub _ hlt
        rw [hrh _ hlt, eabs_coe, abs_mul, abs_of_pos hk, har] at this
        have : |W (256 * c₀ + walsh p₀)| * (ρ * ν) ≤ |W i₀| * (ρ * ν) := by exact_mod_cast this
        exact le_of_mul_le_mul_right this hk
      rw [heq] at har
      revert hgm har hW
      generalize |W (256 * c₀ + walsh p₀)| = w at hw0
      intro hgm har hW
      subst hgm har
      refine ⟨by push_cast; rw [mul_assoc], fun c hc p hp => ?_⟩
      have hlt : 256 * c + walsh p < 8192 := by have := walsh_lt hp; omega
      rw [hh c p hc hp, hrh _ hlt]
      by_cases hw : w = 0
      · subst hw
        have h0 : W (256 * c + walsh p) = 0 := abs_nonpos_iff.mp (hW c hc p hp)
        rw [h0]
        simp [d1]
      · have hwp : 0 < w := lt_of_le_of_ne hw0 (Ne.symm hw)
        have hne : ((w * (ρ * ν) : ℝ) : EReal) ≠ 0 := by
          rw [← EReal.coe_zero]; exact fun h => (mul_pos hwp hk).ne' (EReal.coe_eq_coe_iff.mp h)
        have hne' : ((w : ℝ) : EReal) ≠ 0 := by
          rw [← EReal.coe_zero]; exact fun h => hw (EReal.coe_eq_coe_iff.mp h)
        have h7n : ((7 : ℝ) : EReal) ≠ 0 := by
          rw [← EReal.coe_zero]; exact fun h => (by norm_num : (7 : ℝ) ≠ 0) (EReal.coe_eq_coe_iff.mp h)
        rw [if_neg hne, if_neg hne, ← h7]
        unfold Ideal.div
        rw [if_neg hne', if_neg h7n, ← EReal.coe_inv, ← EReal.coe_inv, ← EReal.coe_mul, ← EReal.coe_mul, ← EReal.coe_mul,
          if_neg (by rw [← EReal.coe_zero]; exact fun h => (by positivity : w * (ρ * ν) * (7 : ℝ)⁻¹ ≠ 0) (EReal.coe_eq_coe_iff.mp h)),
          ← EReal.coe_inv, ← EReal.coe_mul]
        refine congrArg _ ?_
        field_simp

end Cert.Proof

end
-- ==== Proof.SignWord.lean ====
/- The sign that the kernel computes from a count of bits is the Walsh sign. -/
module

public import proofs.«01_k».proof.Proof.TokenMath
public import Idealize.ShloMosaic.PureOps.Float

@[expose] public section

noncomputable section

namespace Cert.Proof

open Idealize.ShloMosaic

/-- The sign of the common bits of two numbers below 256. -/
def sgm : ℕ → ℕ → ℤ
  | 0, _ => 1
  | B + 1, m => sgm B m * if m / 2 ^ B % 2 = 1 then -1 else 1

theorem sg_and (B i j : ℕ) : sg B i j = sgm B (i &&& j) := by
  induction B with
  | zero => rfl
  | succ B ih =>
    have h : ((i &&& j) / 2 ^ B % 2 = 1) ↔ (i / 2 ^ B % 2 = 1 ∧ j / 2 ^ B % 2 = 1) := by
      have := Nat.testBit_and i j B
      simp only [Nat.testBit_eq_decide_div_mod_eq] at this
      rw [← Bool.decide_and] at this
      exact decide_eq_decide.mp this
    rw [sg, sgm, ih]
    simp only [h]

theorem sgm_word : ∀ m : Fin 256, (IntOp.subi (1#32) (IntOp.muli (2#32) (IntOp.andi (IntOp.ctpop (BitVec.ofNat 32 m)) 1#32))).toInt = sgm 8 m := by
  decide +kernel

theorem walsh_word : ∀ p : Fin 256, IntOp.addi (IntOp.muli (4#32) (IntOp.andi (BitVec.ofNat 32 p) 63#32)) (IntOp.shrui ArithUnit.vector (BitVec.ofNat 32 p) 6#32)
    = BitVec.ofNat 32 (walsh p) := by
  decide +kernel

theorem sign_word (p k : Fin 256) : (IntOp.subi (1#32) (IntOp.muli (2#32) (IntOp.andi (IntOp.ctpop (IntOp.andi
    (IntOp.addi (IntOp.muli (4#32) (IntOp.andi (BitVec.ofNat 32 p) 63#32)) (IntOp.shrui ArithUnit.vector (BitVec.ofNat 32 p) 6#32))
    (BitVec.ofNat 32 k))) 1#32))).toInt = sg 8 (walsh p) k := by
  have hw := walsh_lt p.isLt
  have hm : walsh p.val &&& k.val < 256 := Nat.lt_of_le_of_lt Nat.and_le_left hw
  have ha : IntOp.andi (BitVec.ofNat 32 (walsh p)) (BitVec.ofNat 32 k) = BitVec.ofNat 32 (walsh p.val &&& k.val) := by
    refine BitVec.eq_of_toNat_eq ?_
    show (BitVec.ofNat 32 (walsh p) &&& BitVec.ofNat 32 k).toNat = _
    rw [BitVec.toNat_and, BitVec.toNat_ofNat, BitVec.toNat_ofNat, BitVec.toNat_ofNat, Nat.mod_eq_of_lt (by omega), Nat.mod_eq_of_lt (by omega), Nat.mod_eq_of_lt (by omega)]
  rw [walsh_word p, ha, sg_and]
  exact sgm_word ⟨_, hm⟩

end Cert.Proof

end
-- ==== Proof.Consts.lean ====
/- The float constants of the two programs as extended reals. -/
module

public import Idealize.ShloMosaic.PureOps.Ideal
public import Idealize.ShloMosaic.PureOps.Ideal.Laws
public import Idealize.ShloMosaic.Lib.IdealHost
public import Mathlib.Tactic.NormNum
public import Mathlib.Tactic.Positivity

@[expose] public section

noncomputable section

namespace Cert.Proof

open Idealize.ShloMosaic

theorem lit_seven : Ideal.ofBits .f32 0x40E00000#32 = 7 := by
  rw [show (7 : EReal) = ((7 : ℝ) : EReal) from rfl]
  simp [Ideal.ofBits, Ideal.ieee, -EReal.coe_mul]; norm_num

theorem lit_neg_seven : Ideal.ofBits .f32 0xC0E00000#32 = -7 := by
  rw [show (-7 : EReal) = ((-7 : ℝ) : EReal) from rfl]
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_8192 : Ideal.ofBits .f32 0x46000000#32 = ((8192 : ℝ) : EReal) := by
  simp [Ideal.ofBits, Ideal.ieee, -EReal.coe_mul]; norm_num

theorem lit_inv_8192 : Ideal.ofBits .f32 0x39000000#32 = ((1 / 8192 : ℝ) : EReal) := by
  simp [Ideal.ofBits, Ideal.ieee, -EReal.coe_mul]; norm_num

theorem lit_eps : ∃ r : ℝ, 0 < r ∧ Ideal.ofBits .f32 0x3727C5AC#32 = r := by
  refine ⟨_, ?_, (by simp [Ideal.ofBits, Ideal.ieee, -EReal.coe_mul]; rfl)⟩
  norm_num

theorem lit_norm : ∃ r : ℝ, 0 < r ∧ Ideal.ofBits .f32 0x3C3504F3#32 = r := by
  refine ⟨_, ?_, (by simp [Ideal.ofBits, Ideal.ieee, -EReal.coe_mul]; rfl)⟩
  norm_num

theorem lit_neg_inf : Ideal.ofBits .f32 0xFF800000#32 = ⊥ := by
  simp [Ideal.ofBits, Ideal.ieee]

end Cert.Proof

end
-- ==== Proof.Spec.lean ====
/- One token of the layer as both programs compute it: its root mean square, its transform, its scale and its codes. -/
module

public import proofs.«01_k».proof.Proof.TokenMath
public import proofs.«01_k».proof.Proof.Consts

@[expose] public section

noncomputable section

namespace Cert.Proof

open Idealize.ShloMosaic

/-- The factor of the RMS norm. -/
def rmsOf (x : ℕ → EReal) : EReal :=
  Ideal.rsqrt ((∑ j ∈ Finset.range 8192, x j * x j) * ((1 / 8192 : ℝ) : EReal) + Ideal.ofBits .f32 0x3727C5AC#32)

/-- The reference's transformed row. -/
def hOf (x g : ℕ → EReal) : ℕ → EReal := refHad x g (rmsOf x) (Ideal.ofBits .f32 0x3C3504F3#32)

/-- Its largest magnitude. -/
def ampOf (x g : ℕ → EReal) : EReal := Finset.univ.fold max ⊥ fun i : Fin 8192 => eabs (hOf x g i)

/-- The token's scale. -/
def scaleOf (x g : ℕ → EReal) : EReal := if ampOf x g = 0 then 1 else Ideal.div (ampOf x g) 7

/-- A token's code as a number. -/
def codeOf (x g : ℕ → EReal) (i : ℕ) : EReal := min 7 (max (-7) (Ideal.liftRound Ideal.roundHalfEven (Ideal.div (hOf x g i) (scaleOf x g))))

theorem exists_fold_max {n : ℕ} [NeZero n] (f : Fin n → EReal) : ∃ i, Finset.univ.fold max ⊥ f = f i := by
  obtain ⟨i, -, hi⟩ := Finset.exists_max_image Finset.univ f ⟨0, Finset.mem_univ _⟩
  refine ⟨i, le_antisymm ?_ ?_⟩
  · exact Finset.fold_max_le _ |>.mpr ⟨bot_le, fun j hj => hi j hj⟩
  · exact (Finset.le_fold_max _).mpr (Or.inr ⟨i, Finset.mem_univ _, le_rfl⟩)

theorem mul_self_nonneg' (x : EReal) : 0 ≤ x * x := by
  rcases le_total 0 x with h | h
  · exact mul_nonneg h h
  · have : 0 ≤ -x := EReal.neg_nonneg.mpr h
    have h2 := mul_nonneg this this
    rwa [EReal.neg_mul, mul_comm, EReal.neg_mul, neg_neg] at h2

/-- The norm's factor is 0 when an entry is infinite, and a positive real otherwise. -/
theorem rmsOf_cases (x : ℕ → EReal) (hx0 : ∀ j, 8192 ≤ j → x j = 0) :
    rmsOf x = 0 ∨ ∃ ρ : ℝ, 0 < ρ ∧ rmsOf x = ρ ∧ ∃ xr : ℕ → ℝ, ∀ j, x j = xr j := by
  obtain ⟨e, he, hee⟩ := lit_eps
  unfold rmsOf
  rw [hee]
  by_cases h : ∀ j, ∃ r : ℝ, x j = r
  · right
    choose xr hxr using h
    have hs : (∑ j ∈ Finset.range 8192, x j * x j) = ((∑ j ∈ Finset.range 8192, xr j * xr j : ℝ) : EReal) := by
      rw [← coe_sum]
      exact Finset.sum_congr rfl fun j _ => by rw [hxr, EReal.coe_mul]
    have hn : 0 ≤ ∑ j ∈ Finset.range 8192, xr j * xr j := Finset.sum_nonneg fun j _ => mul_self_nonneg _
    rw [hs, ← EReal.coe_mul, ← EReal.coe_add]
    have hp : 0 < (∑ j ∈ Finset.range 8192, xr j * xr j) * (1 / 8192) + e := add_pos_of_nonneg_of_pos (mul_nonneg hn (by norm_num)) he
    refine ⟨(Real.sqrt ((∑ j ∈ Finset.range 8192, xr j * xr j) * (1 / 8192) + e))⁻¹, inv_pos.mpr (Real.sqrt_pos.mpr hp), ?_, xr, hxr⟩
    show (if _ then _ else _) = _
    rw [if_neg (not_lt.mpr hp.le), if_neg hp.ne']
  · left
    push Not at h
    obtain ⟨j, hj⟩ := h
    have hj8 : j < 8192 := by
      by_contra hc
      exact hj 0 (hx0 j (Nat.le_of_not_lt hc))
    have hinf : Inf (x j) := inf_of_not_real (fun ⟨r, hr⟩ => hj r hr)
    have htop : x j * x j = ⊤ := by
      rcases hinf with h | h
      · rw [h]; rfl
      · rw [h]; rfl
    have hs : (∑ j ∈ Finset.range 8192, x j * x j) = ⊤ := by
      rw [eq_top_iff, ← htop]
      exact Finset.single_le_sum (f := fun j => x j * x j) (fun i _ => mul_self_nonneg' _) (Finset.mem_range.mpr hj8)
    rw [hs, EReal.top_mul_coe_of_pos (by norm_num), EReal.top_add_coe]
    rfl

/-- The kernel's numbers for one token are the reference's: from a least bound `gm` of its transform, the scale and the number
    each code rounds. -/
theorem kernel_token (x g : ℕ → EReal) (hx0 : ∀ j, 8192 ≤ j → x j = 0) (gm : EReal)
    (hgm : ∀ z, gm ≤ z ↔ 0 ≤ z ∧ ∀ c < 32, ∀ p < 256, eabs (had x g c p) ≤ z) :
    gm * rmsOf x * Ideal.ofBits .f32 0x3C3504F3#32 = ampOf x g ∧ ∀ c < 32, ∀ p < 256,
      had x g c p * (if ampOf x g = 0 then 0 else Ideal.div 7 gm) = Ideal.div (hOf x g (256 * c + walsh p)) (scaleOf x g) := by
  obtain ⟨ν, hν, hνe⟩ := lit_norm
  have hnn : ∀ y : EReal, 0 ≤ eabs y := fun y => by
    rcases le_total 0 y with h | h
    · exact le_max_of_le_left h
    · exact le_max_of_le_right (EReal.neg_nonneg.mpr h)
  have hub : ∀ c < 32, ∀ p < 256, eabs (had x g c p) ≤ gm := ((hgm gm).mp le_rfl).2
  have hat : ∃ c < 32, ∃ p < 256, gm = eabs (had x g c p) := by
    obtain ⟨i, him, hi⟩ := Finset.exists_max_image (Finset.range 32 ×ˢ Finset.range 256) (fun i => eabs (had x g i.1 i.2)) ⟨(0, 0), by simp⟩
    obtain ⟨h1, h2⟩ := Finset.mem_product.mp him
    refine ⟨i.1, Finset.mem_range.mp h1, i.2, Finset.mem_range.mp h2, le_antisymm ?_ (hub _ (Finset.mem_range.mp h1) _ (Finset.mem_range.mp h2))⟩
    exact (hgm _).mpr ⟨hnn _, fun c hc p hp => hi (c, p) (Finset.mem_product.mpr ⟨Finset.mem_range.mpr hc, Finset.mem_range.mpr hp⟩)⟩
  have rub : ∀ i < 8192, eabs (refHad x g (rmsOf x) ν i) ≤ ampOf x g := by
    intro i hi
    refine (Finset.le_fold_max _).mpr (Or.inr ⟨⟨i, hi⟩, Finset.mem_univ _, ?_⟩)
    unfold hOf
    rw [hνe]
  have rat : ∃ i < 8192, ampOf x g = eabs (refHad x g (rmsOf x) ν i) := by
    obtain ⟨i, hi⟩ := exists_fold_max (fun i : Fin 8192 => eabs (hOf x g i))
    refine ⟨i.val, i.isLt, ?_⟩
    unfold ampOf
    rw [hi]
    unfold hOf
    rw [hνe]
  have := token x g (rmsOf x) ν hν (rmsOf_cases x hx0) gm (ampOf x g) hub hat rub rat
  unfold scaleOf hOf
  rw [hνe]
  exact this

end Cert.Proof

end
-- ==== Proof.KernelIdealScale.lean ====
/- The kernel's matrix of signs, its parts of the gain and its scale, entry by entry. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealHad
public import proofs.«01_k».proof.Proof.SignWord
public import proofs.«01_k».proof.Proof.Spec
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof

/-- The matrix of signs. -/
theorem sign_at (p k : Fin 256) : (k0_pay651 (F := Ideal)) (ix2 p k) = sgE p.val k.val := by
  unfold k0_pay651
  pointwise
  show ((((IntOp.subi (1#32) _).toInt : ℤ) : ℝ) : EReal) = _
  rw [sign_word]
  rfl

theorem gain0_at (V : Vec Ideal S32x256 .f32) (i : Fin 1) (c : Fin 32) (k : Fin 256) : k0_pay656 V (ix3 i c k) = V (ix2 c k) := by
  unfold_payloads
  pointwise

theorem gain1_at (V : Vec Ideal S32x256 .f32) (i : Fin 1) (c : Fin 32) (k : Fin 256) : k0_pay657 V (ix3 i c k) = V (ix2 c k) - V (ix2 c k) := by
  unfold_payloads
  pointwise

theorem gain2_at (V : Vec Ideal S32x256 .f32) (i : Fin 1) (c : Fin 32) (k : Fin 256) :
    k0_pay658 (k0_pay655 V) (ix3 i c k) = V (ix2 c k) - V (ix2 c k) - (V (ix2 c k) - V (ix2 c k)) := by
  unfold_payloads
  pointwise

theorem gmax_at (v53 : FVec Ideal S8x256 .f32) (i : Fin 1) (t : Fin 256) :
    k0_pay666 v53 (ix2 i t) = Finset.univ.fold max ⊥ (fun r : Fin 8 => v53 (ix2 r t)) := by
  unfold_payloads
  pointwise
  rw [lit_neg_inf]

theorem amp_at (v42 : FVec Ideal S256x128 .f32) (v53 : FVec Ideal S8x256 .f32) (i : Fin 1) (t : Fin 256) :
    k0_pay667 v42 v53 (ix2 i t) = k0_pay666 v53 (ix2 i t)
      * Ideal.rsqrt ((∑ l : Fin 128, v42 (ix2 t l)) * ((1 / 8192 : ℝ) : EReal) + Ideal.ofBits .f32 0x3727C5AC#32)
      * Ideal.ofBits .f32 0x3C3504F3#32 := by
  unfold k0_pay667
  pointwise
  rw [lit_inv_8192]

theorem scale_at (v42 : FVec Ideal S256x128 .f32) (v53 : FVec Ideal S8x256 .f32) (i : Fin 1) (t : Fin 256) :
    k0_pay668 v42 v53 (ix2 i t) = if k0_pay667 v42 v53 (ix2 i t) = 0 then 1 else Ideal.div (k0_pay667 v42 v53 (ix2 i t)) 7 := by
  unfold k0_pay668
  generalize k0_pay667 v42 v53 = V
  pointwise
  rw [lit_seven]

theorem inv_at (v42 : FVec Ideal S256x128 .f32) (v53 : FVec Ideal S8x256 .f32) (i : Fin 1) (t : Fin 256) :
    k0_pay669 v42 v53 (ix2 i t) = if k0_pay667 v42 v53 (ix2 i t) = 0 then 0 else Ideal.div 7 (k0_pay666 v53 (ix2 i t)) := by
  unfold k0_pay669
  generalize k0_pay667 v42 v53 = V
  generalize k0_pay666 v53 = W
  pointwise
  rw [lit_seven]

theorem scaleL_at (v42 : FVec Ideal S256x128 .f32) (v53 : FVec Ideal S8x256 .f32) (i : Fin 1) (t : Fin 128) :
    k0_pay670 v42 v53 (ix2 i t) = k0_pay668 v42 v53 (ix2 i ⟨t.val, by omega⟩) := by
  obtain rfl : i = 0 := Subsingleton.elim _ _
  unfold k0_pay670
  generalize k0_pay668 v42 v53 = V
  pointwise

theorem scaleH_at (V : FVec Ideal S1x256 .f32) (i : Fin 1) (t : Fin 128) : k0_pay1 V (ix2 i t) = V (ix2 i ⟨128 + t.val, by omega⟩) := by
  obtain rfl : i = 0 := Subsingleton.elim _ _
  unfold k0_pay1
  pointwise

/-- The gain as a sequence, 0 past its end. -/
def grow (V : S32x256.Idx → EReal) (j : ℕ) : EReal := if h : j < 8192 then V (ix2 ⟨j / 256, by omega⟩ ⟨j % 256, by omega⟩) else 0

theorem xrow_zero (A : S256x8192.Idx → EReal) (t : Fin 256) (j : ℕ) (h : 8192 ≤ j) : xrow A t j = 0 := dif_neg (by omega)

theorem grow_at (V : S32x256.Idx → EReal) (c : Fin 32) (k : Fin 256) : grow V (256 * c.val + k.val) = V (ix2 c k) := by
  unfold grow
  rw [dif_pos (by omega)]
  have h1 : (⟨(256 * c.val + k.val) / 256, by omega⟩ : Fin 32) = c := Fin.ext (by show (256 * c.val + k.val) / 256 = c.val; omega)
  have h2 : (⟨(256 * c.val + k.val) % 256, by omega⟩ : Fin 256) = k := Fin.ext (by show (256 * c.val + k.val) % 256 = k.val; omega)
  rw [h1, h2]

/-- The first loop's box is the three products of a token's row. -/
theorem hadOf_chunk (X : S256x8192.Idx → EReal) (V : S32x256.Idx → EReal) (H : S256x256.Idx → EReal) (Gs : S3x32x256.Idx → EReal)
    (hH : ∀ p k, H (ix2 p k) = sgE p.val k.val) (h0 : ∀ c k, Gs (ix3 0 c k) = V (ix2 c k)) (h1 : ∀ c k, Gs (ix3 1 c k) = V (ix2 c k) - V (ix2 c k))
    (h2 : ∀ c k, Gs (ix3 2 c k) = V (ix2 c k) - V (ix2 c k) - (V (ix2 c k) - V (ix2 c k))) (c : Fin 32) (p t : Fin 256) :
    hadOf X H Gs (ix3 c p t) = chunk (xrow X t) (grow V) c.val p.val := by
  show part X H Gs 2 c p t + part X H Gs 1 c p t + part X H Gs 0 c p t = _
  unfold part chunk
  simp only [Finset.sum_range, grow_at, hH, h0, h1, h2]

/-- The second loop's box is the transform of a token's row. -/
theorem flyOf_had (A : S32x256x256.Idx → EReal) (x g : ℕ → EReal) (c : Fin 32) (p t : Fin 256)
    (h : ∀ c' : Fin 32, A (ix3 c' p t) = chunk x g c'.val p.val) : flyOf A (ix3 c p t) = had x g c.val p.val := by
  show bf32 (row A p t) c.val = bf32 _ c.val
  refine congrArg (fun z => bf32 z c.val) ?_
  funext c'
  unfold row
  by_cases hc : c' < 32
  · rw [dif_pos hc, if_pos hc, h]
  · rw [dif_neg hc, if_neg hc]

/-- The sum of the carried squares is the sum over the row. -/
theorem sum_squares (x : ℕ → EReal) (v : Fin 128 → EReal)
    (hv : ∀ l : Fin 128, v l = 0 + ∑ k ∈ Finset.range 32, (x (256 * k + l.val) * x (256 * k + l.val) + x (256 * k + (128 + l.val)) * x (256 * k + (128 + l.val)))) :
    ∑ l, v l = ∑ j ∈ Finset.range 8192, x j * x j := by
  simp only [hv, zero_add]
  rw [sum_split, Finset.sum_comm]
  refine Finset.sum_congr rfl fun k _ => ?_
  rw [Finset.sum_add_distrib, show 256 = 128 + 128 from rfl, Finset.sum_range_add, Finset.sum_range, Finset.sum_range]

end Cert.Proof.KernelIdeal

end
-- ==== Proof.KernelIdealPack.lean ====
/- The loop that rounds: the codes it leaves, packed for the matrix product and in the codes array. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealScale
public import proofs.«01_k».proof.Proof.Consts
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

open Cert.Proof

/-- Rounding to the nearest integer and clipping to `[-7, 7]`. -/
def clip7 (z : EReal) : EReal := min 7 (max (-7) (Ideal.liftRound Ideal.roundHalfEven z))

/-- A `[32, 256, 256]` box read at natural coordinates. -/
def box (A : S32x256x256.Idx → EReal) (a b : ℕ) (t : Fin 256) : EReal :=
  if h : a < 32 ∧ b < 256 then A (ix3 ⟨a, h.1⟩ ⟨b, h.2⟩ t) else 0

theorem box_of (A : S32x256x256.Idx → EReal) (a b : ℕ) (t : Fin 256) (ha : a < 32) (hb : b < 256) :
    A (ix3 ⟨a, ha⟩ ⟨b, hb⟩ t) = box A a b t := by
  unfold box; rw [dif_pos ⟨ha, hb⟩]

theorem mem_unit3 (o p q a b d : ℕ) (h) (y : S32x256x256.Idx) :
    y ∈ (Rect.unit (s := S32x256x256) ![o, p, q] ![a, b, d] h).set
      ↔ (o ≤ (y 0).val ∧ (y 0).val < o + a) ∧ (p ≤ (y 1).val ∧ (y 1).val < p + b) ∧ (q ≤ (y 2).val ∧ (y 2).val < q + d) := by
  rw [Rect.mem_set_unit]
  exact ⟨fun h => ⟨h 0, h 1, h 2⟩, fun h i => match i with | 0 => h.1 | 1 => h.2.1 | 2 => h.2.2⟩

/-- The codes as the matrix product reads them: row `r`, lane `s` is chunk `4 * (r / 4) + s / 64`, position `64 * (r % 4) + s % 64`. -/
def packOf (A : S32x256x256.Idx → EReal) (inv : S1x256.Idx → EReal) : S32x256x256.Idx → EReal := fun y =>
  clip7 (box A (4 * ((y 0).val / 4) + (y 1).val / 64) (64 * ((y 0).val % 4) + (y 1).val % 64) (y 2) * inv (ix2 0 (y 2)))

theorem packOf_emb (A inv) (o p : ℕ) (h) (x0 : Fin 1) (x1 : Fin 64) (x2 : Fin 256) :
    packOf A inv ((Rect.unit (s := S32x256x256) ![o, p, 0] ![1, 64, 256] h).emb (ix3 x0 x1 x2))
      = clip7 (box A (4 * (o / 4) + (p + x1.val) / 64) (64 * (o % 4) + (p + x1.val) % 64) x2 * inv (ix2 0 x2)) := by
  obtain rfl : x0 = 0 := Subsingleton.elim _ _
  unfold packOf
  have e : ((Rect.unit (s := S32x256x256) ![o, p, 0] ![1, 64, 256] h).emb (ix3 0 x1 x2)) 2 = x2 :=
    Fin.ext (by show 0 + 1 * x2.val = x2.val; omega)
  have e0 : (((Rect.unit (s := S32x256x256) ![o, p, 0] ![1, 64, 256] h).emb (ix3 0 x1 x2)) 0).val = o := by
    show o + 1 * 0 = o; omega
  have e1 : (((Rect.unit (s := S32x256x256) ![o, p, 0] ![1, 64, 256] h).emb (ix3 0 x1 x2)) 1).val = p + x1.val := by
    show p + 1 * x1.val = p + x1.val; omega
  rw [e, e0, e1]

theorem iv_nat4 (k : ℕ) (hk : k < 32) (f : ℕ) (hf : f < 4) :
    BitVec.toNat (Scalar.indexCast (Scalar.addi (Scalar.muli (Scf.iv 0#32 1#32 k) 4#32) (BitVec.ofNat 32 f))) = 4 * k + f := by
  unfold Scalar.indexCast Scf.iv Scalar.muli IntOp.muli Scalar.addi IntOp.addi
  simp; omega

theorem iv_nat4' (k : ℕ) (hk : k < 32) (f : ℕ) (hf : f < 4) :
    BitVec.toNat (Scalar.indexCast (Scalar.addi (Scalar.muli 4#32 (Scf.iv 0#32 1#32 k)) (BitVec.ofNat 32 f))) = 4 * k + f := by
  unfold Scalar.indexCast Scf.iv Scalar.muli IntOp.muli Scalar.addi IntOp.addi
  simp; omega

theorem iv_nat1024 (k : ℕ) (hk : k < 32) (f : ℕ) (hf : f < 4) :
    BitVec.toNat (Scalar.indexCast (Scalar.muli (Scalar.addi (Scalar.muli 4#32 (Scf.iv 0#32 1#32 k)) (BitVec.ofNat 32 f)) 256#32)) = 256 * (4 * k + f) := by
  unfold Scalar.indexCast Scf.iv Scalar.muli IntOp.muli Scalar.addi IntOp.addi
  simp; omega

variable (v70 : FVec Ideal S1x256 .f32)

set_option maxHeartbeats 2000000 in
/-- A trip stores one group of four chunks of the packed codes. -/
theorem pack_pieces (X9) (f5) (f10) (f11) (k : Fin k0_t3_loop.trips) :
    View.PiecesOf (packOf (arg9.view.read (Elt Ideal) X9) v70) (tripL_k0_t3 (F := Ideal) 𝒱 c bd arg0 harg0 arg1 harg1 arg2 harg2 arg3 harg3 arg4 harg4 arg5 harg5 arg6 harg6 arg7 harg7 arg8 harg8 arg9 harg9 arg10 harg10 arg11 harg11 v70 X9 k f5 f10 f11).2.1 := by
  have hk : k.val < 8 := Nat.lt_of_lt_of_le k.isLt k0_t3_abs.2.1
  have h0 := iv_nat4 k.val (by omega) 0 (by omega)
  have h1 := iv_nat4 k.val (by omega) 1 (by omega)
  have h2 := iv_nat4 k.val (by omega) 2 (by omega)
  have h3 := iv_nat4 k.val (by omega) 3 (by omega)
  have g0 := iv_nat4' k.val (by omega) 0 (by omega)
  have g1 := iv_nat4' k.val (by omega) 1 (by omega)
  have g2 := iv_nat4' k.val (by omega) 2 (by omega)
  have g3 := iv_nat4' k.val (by omega) 3 (by omega)
  have d : ∀ f < 4, (4 * k.val + f) / 4 = k.val ∧ (4 * k.val + f) % 4 = f := fun f hf => by omega
  have d0 := d 0 (by omega)
  have d1 := d 1 (by omega)
  have d2 := d 2 (by omega)
  have d3 := d 3 (by omega)
  have e0 : ∀ x : Fin 64, (0 + x.val) / 64 = 0 ∧ (0 + x.val) % 64 = x.val := fun x => by omega
  have e1 : ∀ x : Fin 64, (64 + x.val) / 64 = 1 ∧ (64 + x.val) % 64 = x.val := fun x => by omega
  have e2 : ∀ x : Fin 64, (128 + x.val) / 64 = 2 ∧ (128 + x.val) % 64 = x.val := fun x => by omega
  have e3 : ∀ x : Fin 64, (192 + x.val) / 64 = 3 ∧ (192 + x.val) % 64 = x.val := fun x => by omega
  have c0 : 4 * k.val / 4 = k.val ∧ 4 * k.val % 4 = 0 := by omega
  have e4 : ∀ x : Fin 64, x.val / 64 = 0 ∧ x.val % 64 = x.val := fun x => by omega
  unfold tripL_k0_t3 trip_k0_t3
  sl_unfold_words
  dsimp only
  simp only [View.readAt_eq_ld]
  generalize View.read (Elt Ideal) arg9.view X9 = A9
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, trivial⟩
  all_goals
    idx_vars x
    refine Eq.trans ?_ (packOf_emb A9 v70 _ _ _ x0 x1 x2).symm
    unfold_payloads
    pointwise
    simp only [h0, h1, h2, h3, g0, g1, g2, g3, d0, d1, d2, d3, c0, e4, e0, e1, e2, e3, box_of, Nat.mul_zero, Nat.mul_one, Nat.zero_add, Nat.add_zero, Nat.reduceMul, lit_seven, lit_neg_seven]
    rfl

set_option maxHeartbeats 2000000 in
/-- A trip stores rows `4 * k` up to `4 * k + 4` of the packed codes. -/
theorem pack_mem (X9) (f5) (f10) (f11) (k : Fin k0_t3_loop.trips) (y : S32x256x256.Idx) :
    (∃ r ∈ (tripL_k0_t3 (F := Ideal) 𝒱 c bd arg0 harg0 arg1 harg1 arg2 harg2 arg3 harg3 arg4 harg4 arg5 harg5 arg6 harg6 arg7 harg7 arg8 harg8 arg9 harg9 arg10 harg10 arg11 harg11 v70 X9 k f5 f10 f11).2.1.map Sigma.fst, y ∈ r.set)
      ↔ 4 * k.val ≤ (y 0).val ∧ (y 0).val < 4 * k.val + 4 := by
  have hk : k.val < 8 := Nat.lt_of_lt_of_le k.isLt k0_t3_abs.2.1
  have h0 := iv_nat4 k.val (by omega) 0 (by omega)
  have h1 := iv_nat4 k.val (by omega) 1 (by omega)
  have h2 := iv_nat4 k.val (by omega) 2 (by omega)
  have h3 := iv_nat4 k.val (by omega) 3 (by omega)
  have b1 : (y 1).val < 256 := (y 1).isLt
  have b2 : (y 2).val < 256 := (y 2).isLt
  unfold tripL_k0_t3 trip_k0_t3
  sl_unfold_words
  dsimp only [List.map]
  simp only [List.mem_cons, List.not_mem_nil, or_false, exists_eq_or_imp, exists_eq_left, mem_unit3, h0, h1, h2, h3]
  constructor
  · rintro (h | h | h | h | h | h | h | h | h | h | h | h | h | h | h | h) <;> exact ⟨by omega, by omega⟩
  · rintro ⟨h4, h5⟩
    have h6 : (y 0).val = 4 * k.val + 0 ∨ (y 0).val = 4 * k.val + 1 ∨ (y 0).val = 4 * k.val + 2 ∨ (y 0).val = 4 * k.val + 3 := by omega
    have h7 : (y 1).val / 64 = 0 ∨ (y 1).val / 64 = 1 ∨ (y 1).val / 64 = 2 ∨ (y 1).val / 64 = 3 := by omega
    rcases h6 with h6 | h6 | h6 | h6 <;> rcases h7 with h7 | h7 | h7 | h7
    · exact Or.inr (Or.inr (Or.inr (Or.inr (Or.inr (Or.inr (Or.inr (Or.inr (Or.inr (Or.inr (Or.inr (Or.inr (Or.inr (Or.inr (Or.inr (⟨by omega, by omega, by omega⟩)))))))))))))))
    · exact Or.inr (Or.inr (Or.inr (Or.inr (Or.inr (Or.inr (Or.inr (Or.inr (Or.inr (Or.inr (Or.inr (Or.inl ⟨by omega, by omega, by omega⟩)))))))))))
    · exact Or.inr (Or.inr (Or.inr (Or.inr (Or.inr (Or.inr (Or.inr (Or.inl ⟨by omega, by omega, by omega⟩)))))))
    · exact Or.inr (Or.inr (Or.inr (Or.inl ⟨by omega, by omega, by omega⟩)))
    · exact Or.inr (Or.inr (Or.inr (Or.inr (Or.inr (Or.inr (Or.inr (Or.inr (Or.inr (Or.inr (Or.inr (Or.inr (Or.inr (Or.inr (Or.inl ⟨by omega, by omega, by omega⟩))))))))))))))
    · exact Or.inr (Or.inr (Or.inr (Or.inr (Or.inr (Or.inr (Or.inr (Or.inr (Or.inr (Or.inr (Or.inl ⟨by omega, by omega, by omega⟩))))))))))
    · exact Or.inr (Or.inr (Or.inr (Or.inr (Or.inr (Or.inr (Or.inl ⟨by omega, by omega, by omega⟩))))))
    · exact Or.inr (Or.inr (Or.inl ⟨by omega, by omega, by omega⟩))
    · exact Or.inr (Or.inr (Or.inr (Or.inr (Or.inr (Or.inr (Or.inr (Or.inr (Or.inr (Or.inr (Or.inr (Or.inr (Or.inr (Or.inl ⟨by omega, by omega, by omega⟩)))))))))))))
    · exact Or.inr (Or.inr (Or.inr (Or.inr (Or.inr (Or.inr (Or.inr (Or.inr (Or.inr (Or.inl ⟨by omega, by omega, by omega⟩)))))))))
    · exact Or.inr (Or.inr (Or.inr (Or.inr (Or.inr (Or.inl ⟨by omega, by omega, by omega⟩)))))
    · exact Or.inr (Or.inl ⟨by omega, by omega, by omega⟩)
    · exact Or.inr (Or.inr (Or.inr (Or.inr (Or.inr (Or.inr (Or.inr (Or.inr (Or.inr (Or.inr (Or.inr (Or.inr (Or.inl ⟨by omega, by omega, by omega⟩))))))))))))
    · exact Or.inr (Or.inr (Or.inr (Or.inr (Or.inr (Or.inr (Or.inr (Or.inr (Or.inl ⟨by omega, by omega, by omega⟩))))))))
    · exact Or.inr (Or.inr (Or.inr (Or.inr (Or.inl ⟨by omega, by omega, by omega⟩))))
    · exact Or.inl ⟨by omega, by omega, by omega⟩

end Cert.Proof.KernelIdeal

end
-- ==== Proof.KernelIdealWeight.lean ====
/- The weight a byte of the packed array stands for, as the kernel decodes it. -/
module

public import Idealize.ShloMosaic.Lib.BitcastFour
public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealPack
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof

/-- The byte the kernel makes of a packed byte, its field shifted to the top by `s`. -/
def wbyte (s : ℕ) (b : BitVec 8) : BitVec 8 := ~~~(b <<< s) &&& 0xC0#8

/-- That byte read as an eight-bit float. -/
def wOf (s : ℕ) (b : BitVec 8) : EReal := Ideal.ofBits .fp8e4m3 (wbyte s b)

theorem wbyte_getLsbD (s : ℕ) (hs : s ≤ 6) (b : BitVec 8) (q : ℕ) (hq : q < 8) :
    (wbyte s b).getLsbD q = (decide (6 ≤ q) && !(b.getLsbD (q - s))) := by
  unfold wbyte
  have hm : (0xC0#8).getLsbD q = decide (6 ≤ q) := by interval_cases q <;> rfl
  rw [BitVec.getLsbD_and, BitVec.getLsbD_not, BitVec.getLsbD_shiftLeft, hm]
  by_cases h : 6 ≤ q
  · have h1 : ¬ q < s := by omega
    simp [h, hq, h1]
  · simp [h]

theorem word_getLsbD (s : ℕ) (hs : s ≤ 6) (w : BitVec 32) (r q : ℕ) (hr : r < 4) (hq : q < 8) :
    (IntOp.andi (IntOp.xori (IntOp.shli .vector w (BitVec.ofNat 32 s)) 4294967295#32) 3233857728#32).getLsbD (8 * r + q)
      = (decide (6 ≤ q) && !(w.getLsbD (8 * r + (q - s)))) := by
  have hi : 8 * r + q < 32 := by omega
  have hm : (3233857728#32).getLsbD (8 * r + q) = decide (6 ≤ q) := by interval_cases r <;> interval_cases q <;> rfl
  have ho : (4294967295#32).getLsbD (8 * r + q) = true := by interval_cases r <;> interval_cases q <;> rfl
  have hsn : (BitVec.ofNat 32 s).toNat = s := by simp; omega
  unfold IntOp.andi IntOp.xori IntOp.shli
  rw [if_pos (by omega), BitVec.getLsbD_and, BitVec.getLsbD_xor, hm, ho, BitVec.shiftLeft_eq', hsn, BitVec.getLsbD_shiftLeft]
  by_cases h : 6 ≤ q
  · have h1 : ¬ 8 * r + q < s := by omega
    have h2 : 8 * r + q - s = 8 * r + (q - s) := by omega
    simp [h, hi, h1, h2]
  · simp [h]

theorem weight_at (s : ℕ) (hs : s ≤ 6) (v : S512x256.Idx → BitVec 8) (o : Fin 512) (x : Fin 256) :
    Ideal.ofBits .fp8e4m3 (bitcast S512x256 8
      (andi (xori (shli (bitcast S128x256 32 v bitcasts_S512x256_w8_S128x256_w32) (broadcast S128x256 (BitVec.ofNat 32 s)))
        (constantI S128x256 32 4294967295#32)) (broadcast S128x256 3233857728#32))
      bitcasts_S128x256_w32_S512x256_w8 (ix2 o x)) = wOf s (v (ix2 o x)) := by
  unfold wOf
  refine congrArg (Ideal.ofBits .fp8e4m3) ?_
  apply BitVec.eq_of_getLsbD_eq
  intro q hq
  rw [wbyte_getLsbD s hs _ q hq, bitcast_getLsbD _ _ _ q hq (by omega)]
  have hrow : S512x256.row (ix2 o x) = o.val := rfl
  have e1 : (S512x256.row (ix2 o x) * 8 + q) / 32 = o.val / 4 := by rw [hrow]; omega
  have e2 : (S512x256.row (ix2 o x) * 8 + q) % 32 = 8 * (o.val % 4) + q := by rw [hrow]; omega
  rw [e2]
  generalize hj : Shape.Bitcasts.srcIdx bitcasts_S128x256_w32_S512x256_w8 (ix2 o x) _ _ = j
  have hj' : j = ix2 ⟨o.val / 4, by omega⟩ x := by
    subst hj
    funext a
    match a with
    | ⟨0, _⟩ => exact Fin.ext ((Shape.Bitcasts.srcIdx_row bitcasts_S128x256_w32_S512x256_w8 _ _ _ ⟨0, Nat.zero_lt_two⟩ rfl).trans e1)
    | ⟨1, _⟩ => exact Fin.ext (Shape.Bitcasts.srcIdx_other bitcasts_S128x256_w32_S512x256_w8 _ _ _ ⟨1, Nat.one_lt_two⟩ (by show ¬ 1 + 2 = 2; omega))
  rw [hj']
  refine (word_getLsbD s hs _ (o.val % 4) q (by omega) hq).trans ?_
  by_cases h : 6 ≤ q
  · have := bitcast_8_32_getLsbD_ix2 v bitcasts_S512x256_w8_S128x256_w32 ⟨o.val / 4, by omega⟩ x (8 * (o.val % 4) + (q - s)) (by omega) o (by show o.val = 4 * (o.val / 4) + _; omega)
    rw [show (bitcast S128x256 32 v bitcasts_S512x256_w8_S128x256_w32 (ix2 ⟨o.val / 4, by omega⟩ x)).getLsbD (8 * (o.val % 4) + (q - s)) = _ from this]
    rw [show (8 * (o.val % 4) + (q - s)) % 8 = q - s by omega]
    rfl
  · simp [h]

theorem wbyte_cases (f : ℕ) (hf : f < 4) (b : BitVec 8) :
    wbyte (6 - 2 * f) b = if b.toNat / 4 ^ f % 4 = 0 then 0xC0#8 else if b.toNat / 4 ^ f % 4 = 1 then 0x80#8
      else if b.toNat / 4 ^ f % 4 = 2 then 0x40#8 else 0#8 := by
  revert b
  interval_cases f <;> decide +kernel

/-- A field's weight, twice over: the field less one. -/
theorem wOf_field (f : ℕ) (hf : f < 4) (b : BitVec 8) (h : b.toNat / 4 ^ f % 4 ≠ 3) :
    wOf (6 - 2 * f) b = ((2 * (((b.toNat / 4 ^ f % 4 : ℕ) : ℝ) - 1) : ℝ) : EReal) := by
  unfold wOf
  rw [wbyte_cases f hf b]
  have h4 : b.toNat / 4 ^ f % 4 < 4 := Nat.mod_lt _ (by omega)
  generalize b.toNat / 4 ^ f % 4 = n at *
  interval_cases n
  · rw [if_pos rfl]; simp [Ideal.ofBits, Ideal.e4m3fn, -EReal.coe_mul, -EReal.coe_sub] <;> norm_num
  · rw [if_neg (by omega), if_pos rfl]; simp [Ideal.ofBits, Ideal.e4m3fn, -EReal.coe_mul, -EReal.coe_sub] <;> norm_num
  · rw [if_neg (by omega), if_neg (by omega), if_pos rfl]; simp [Ideal.ofBits, Ideal.e4m3fn, -EReal.coe_mul, -EReal.coe_sub] <;> norm_num
  · exact absurd rfl h

end Cert.Proof.KernelIdeal

end
-- ==== Proof.KernelIdealMain.lean ====
/- The matrix product: one trip and the whole loop. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealWeight
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

open Cert.Proof

/-- The packed array at natural coordinates. -/
def wat (W : S3584x2048.Idx → BitVec 8) (o : Fin 3584) (j : ℕ) : BitVec 8 := if h : j < 2048 then W (ix2 o ⟨j, h⟩) else 0

theorem wat_of (W : S3584x2048.Idx → BitVec 8) (o : Fin 3584) (j : ℕ) (h : j < 2048) : W (ix2 o ⟨j, h⟩) = wat W o j := by
  unfold wat; rw [dif_pos h]

/-- One of the 32 partial products. -/
def dotOf (W : S3584x2048.Idx → BitVec 8) (Q : S32x256x256.Idx → EReal) (o : Fin 3584) (t : Fin 256) (n : ℕ) : EReal :=
  ∑ x : Fin 256, wOf (6 - 2 * (n % 4)) (wat W o (256 * (n / 4) + x.val)) * box Q n x.val t

/-- The rows of the product, token by token. -/
def yOf (W : S3584x2048.Idx → BitVec 8) (ws : S1.Idx → EReal) (Q : S32x256x256.Idx → EReal) (sc : S1x256.Idx → EReal) :
    S256x3584.Idx → EReal := fun y =>
  (∑ n ∈ Finset.range 32, dotOf W Q (y 1) (y 0) n) * Ideal.ofBits .f32 0x3F000000#32 * sc (ix2 0 (y 0)) * ws (ix1 0)

theorem yOf_emb (W ws Q sc) (p : ℕ) (h) (x0 : Fin 256) (x1 : Fin 512) (hp : p + x1.val < 3584) :
    yOf W ws Q sc ((Rect.unit (s := S256x3584) ![0, p] ![256, 512] h).emb (ix2 x0 x1))
      = (∑ n ∈ Finset.range 32, dotOf W Q ⟨p + x1.val, hp⟩ x0 n) * Ideal.ofBits .f32 0x3F000000#32 * sc (ix2 0 x0) * ws (ix1 0) := by
  unfold yOf
  have e : ((Rect.unit (s := S256x3584) ![0, p] ![256, 512] h).emb (ix2 x0 x1)) 0 = x0 :=
    Fin.ext (by show 0 + 1 * x0.val = x0.val; omega)
  have e1 : ((Rect.unit (s := S256x3584) ![0, p] ![256, 512] h).emb (ix2 x0 x1)) 1 = (⟨p + x1.val, hp⟩ : Fin 3584) :=
    Fin.ext (by show p + 1 * x1.val = p + x1.val; omega)
  rw [e, e1]

theorem iv_nat512 (k : ℕ) (hk : k < 32) :
    BitVec.toNat (Scalar.indexCast (Scalar.muli (Scf.iv 0#32 1#32 k) 512#32)) = 512 * k := by
  unfold Scalar.indexCast Scf.iv Scalar.muli IntOp.muli
  simp; omega

theorem box_at (A : S32x256x256.Idx → EReal) (a : Fin 32) (b : Fin 256) (t : Fin 256) : A (ix3 a b t) = box A a.val b.val t :=
  box_of A a.val b.val t a.isLt b.isLt

variable (v64 : FVec Ideal S1x256 .f32)

set_option maxHeartbeats 4000000 in
/-- A trip stores one block of 512 columns. -/
theorem y_pieces (X2 X3 X10) (k : Fin k0_t4_loop.trips) :
    View.PiecesOf (yOf (arg2.view.read (Elt Ideal) X2) (arg3.view.read (Elt Ideal) X3) (arg10.view.read (Elt Ideal) X10) v64)
      (tripL_k0_t4 (F := Ideal) 𝒱 c bd arg0 harg0 arg1 harg1 arg2 harg2 arg3 harg3 arg4 harg4 arg5 harg5 arg6 harg6 arg7 harg7 arg8 harg8 arg9 harg9 arg10 harg10 arg11 harg11 v64 X2 X3 X10 k) := by
  have hk : k.val < 7 := Nat.lt_of_lt_of_le k.isLt k0_t4_abs.2.1
  have ho := iv_nat512 k.val (by omega)
  unfold tripL_k0_t4 trip_k0_t4
  sl_unfold_words
  dsimp only
  simp only [View.readAt_eq_ld]
  generalize View.read (Elt Ideal) arg2.view X2 = A2
  generalize View.read (Elt Ideal) arg3.view X3 = A3
  generalize View.read (Elt Ideal) arg10.view X10 = A10
  refine ⟨fun x => ?_, trivial⟩
  idx_vars x
  refine Eq.trans ?_ (yOf_emb A2 A3 A10 v64 _ _ x0 x1 (by omega)).symm
  unfold_payloads
  pointwise
  simp only [weight_at 0 (by omega), weight_at 2 (by omega), weight_at 4 (by omega), weight_at 6 (by omega)]
  pointwise
  simp only [Finset.sum_range_succ, Finset.sum_range_zero, zero_add, dotOf]
  simp only [box_at, wat_of, Nat.reduceMod, Nat.reduceDiv, Nat.reduceMul, Nat.reduceSub, Nat.zero_add]
  rfl

theorem y_mem (X2 X3 X10) (k : Fin k0_t4_loop.trips) (y : S256x3584.Idx) :
    (∃ r ∈ (tripL_k0_t4 (F := Ideal) 𝒱 c bd arg0 harg0 arg1 harg1 arg2 harg2 arg3 harg3 arg4 harg4 arg5 harg5 arg6 harg6 arg7 harg7 arg8 harg8 arg9 harg9 arg10 harg10 arg11 harg11 v64 X2 X3 X10 k).map Sigma.fst, y ∈ r.set)
      ↔ 512 * k.val ≤ (y 1).val ∧ (y 1).val < 512 * k.val + 512 := by
  have hk : k.val < 7 := Nat.lt_of_lt_of_le k.isLt k0_t4_abs.2.1
  have ho := iv_nat512 k.val (by omega)
  have b0 : (y 0).val < 256 := (y 0).isLt
  unfold tripL_k0_t4 trip_k0_t4
  sl_unfold_words
  dsimp only [List.map]
  simp only [List.mem_cons, List.not_mem_nil, or_false, exists_eq_left]
  constructor
  · intro h
    have h1 := (Rect.mem_set_unit ..).mp h 1
    simp only [Matrix.cons_val_one, Matrix.cons_val_zero, ho] at h1
    exact h1
  · intro h
    refine (Rect.mem_set_unit ..).mpr fun a => ?_
    match a with
    | 0 => exact ⟨Nat.zero_le _, by show (y 0).val < 0 + 256; omega⟩
    | 1 => rw [← ho] at h; exact h

/-- After `n` trips the first `512 * n` columns are the product's. -/
theorem y_loop (G4) (X2 X3 X10) (n : ℕ) (hn : n ≤ 7) (y : S256x3584.Idx) :
    arg4.view.read (Elt Ideal) (arg4.view.writes (Elt Ideal) G4 (pb_k0_t4 (F := Ideal) 𝒱 c bd arg0 harg0 arg1 harg1 arg2 harg2 arg3 harg3 arg4 harg4 arg5 harg5 arg6 harg6 arg7 harg7 arg8 harg8 arg9 harg9 arg10 harg10 arg11 harg11 v64 X2 X3 X10 n)) y
      = if (y 1).val < 512 * n then
          yOf (arg2.view.read (Elt Ideal) X2) (arg3.view.read (Elt Ideal) X3) (arg10.view.read (Elt Ideal) X10) v64 y
        else arg4.view.read (Elt Ideal) G4 y := by
  induction n with
  | zero => rw [if_neg (by omega)]; rfl
  | succ n ih =>
    have ih1 := ih (by omega)
    have ht : n < k0_t4_loop.trips := by have : k0_t4_loop.trips = 7 := by decide +kernel
                                         omega
    have hs := pb_k0_t4_succ (F := Ideal) 𝒱 c bd arg0 harg0 arg1 harg1 arg2 harg2 arg3 harg3 arg4 harg4 arg5 harg5 arg6 harg6 arg7 harg7 arg8 harg8 arg9 harg9 arg10 harg10 arg11 harg11 v64 X2 X3 X10 ⟨n, ht⟩
    dsimp only at hs
    rw [hs, View.writes_append, read_writes_pieces _ _ _ _ _ (y_pieces ..)]
    simp only [y_mem, ih1]
    by_cases h1 : 512 * n ≤ (y 1).val ∧ (y 1).val < 512 * n + 512
    · rw [if_pos h1, if_pos (by omega)]
    · rw [if_neg h1]
      by_cases h2 : (y 1).val < 512 * n
      · rw [if_pos h2, if_pos (by omega)]
      · rw [if_neg h2, if_neg (by omega)]

end Cert.Proof.KernelIdeal

end
-- ==== Proof.KernelIdealCodesLib.lean ====
/- The scratch box of one chunk of codes, and the codes array. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealPack
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof

/-- What the scratch box holds of one chunk's codes, in the order of the codes array. -/
def natOf (A : S32x256x256.Idx → EReal) (inv : S1x256.Idx → EReal) (a : ℕ) : S2x256x128.Idx → EReal := fun y =>
  clip7 (box A a (64 * ((y 1).val % 4) + (y 1).val / 4) ⟨128 * (y 0).val + (y 2).val, by
    have h0 : (y 0).val < 2 := (y 0).isLt
    have h2 : (y 2).val < 128 := (y 2).isLt
    omega⟩ * inv (ix2 0 ⟨128 * (y 0).val + (y 2).val, by
    have h0 : (y 0).val < 2 := (y 0).isLt
    have h2 : (y 2).val < 128 := (y 2).isLt
    omega⟩))

theorem natOf_emb (A inv) (a : ℕ) (o p : ℕ) (ho : o < 2) (hp : p < 4) (h hs) (x0 : Fin 1) (x1 : Fin 64) (x2 : Fin 128) :
    natOf A inv a ((⟨⟨![o, p, 0], ![1, 64, 128], ![1, 4, 1], h⟩, hs⟩ : Rect S2x256x128).emb (ix3 x0 x1 x2))
      = clip7 (box A a (64 * p + x1.val) ⟨128 * o + x2.val, by omega⟩ * inv (ix2 0 ⟨128 * o + x2.val, by omega⟩)) := by
  obtain rfl : x0 = 0 := Subsingleton.elim _ _
  unfold natOf
  have e0 : (((⟨⟨![o, p, 0], ![1, 64, 128], ![1, 4, 1], h⟩, hs⟩ : Rect S2x256x128).emb (ix3 0 x1 x2)) 0).val = o := by
    show o + 1 * 0 = o; omega
  have e1 : (((⟨⟨![o, p, 0], ![1, 64, 128], ![1, 4, 1], h⟩, hs⟩ : Rect S2x256x128).emb (ix3 0 x1 x2)) 1).val = p + 4 * x1.val := by
    show p + 4 * x1.val = p + 4 * x1.val; rfl
  have e2 : (((⟨⟨![o, p, 0], ![1, 64, 128], ![1, 4, 1], h⟩, hs⟩ : Rect S2x256x128).emb (ix3 0 x1 x2)) 2).val = x2.val := by
    show 0 + 1 * x2.val = x2.val; omega
  simp only [e0, e1, e2]
  rw [show (p + 4 * x1.val) % 4 = p by omega, show (p + 4 * x1.val) / 4 = x1.val by omega]

theorem natOf_low (A inv) (a : ℕ) (x1 : Fin 256) (x0 : Fin 128) :
    natOf A inv a (ix3 0 x1 x0) = clip7 (box A a (64 * (x1.val % 4) + x1.val / 4) ⟨x0.val, by omega⟩ * inv (ix2 0 ⟨x0.val, by omega⟩)) := by
  show clip7 (box A a (64 * (x1.val % 4) + x1.val / 4) ⟨128 * 0 + x0.val, _⟩ * inv (ix2 0 ⟨128 * 0 + x0.val, _⟩)) = _
  simp only [Nat.mul_zero, Nat.zero_add]

/-- Eight last stores that are all blocks of `T` and fill the box: the box reads `T`. -/
theorem read_eight (v : View sig .tc .vmem S2x256x128 .f32) (f : v.ty.Contents (Elt Ideal)) (T : S2x256x128.Idx → EReal)
    (p0 p1 p2 p3 p4 p5 p6 p7 : View.Piece (Elt Ideal) S2x256x128 .f32) (L)
    (hp : View.PiecesOf (Val := Elt Ideal) T [p0, p1, p2, p3, p4, p5, p6, p7])
    (hc : ∀ y, ∃ r ∈ [p0.1, p1.1, p2.1, p3.1, p4.1, p5.1, p6.1, p7.1], y ∈ r.set) :
    v.read (Elt Ideal) (v.writes (Elt Ideal) f (p0 :: p1 :: p2 :: p3 :: p4 :: p5 :: p6 :: p7 :: L)) = T := by
  funext y
  rw [show p0 :: p1 :: p2 :: p3 :: p4 :: p5 :: p6 :: p7 :: L = [p0, p1, p2, p3, p4, p5, p6, p7] ++ L from rfl,
    View.writes_append, read_writes_pieces _ _ _ _ _ hp]
  exact if_pos (hc y)

theorem nat_rects (y : S2x256x128.Idx) (h1 h2 h3 h4 h5 h6_ h7_ h8 g1 g2 g3 g4 g5 g6 g7 g8) :
    ∃ r ∈ ([⟨⟨![1, 3, 0], ![1, 64, 128], ![1, 4, 1], h1⟩, g1⟩, ⟨⟨![0, 3, 0], ![1, 64, 128], ![1, 4, 1], h2⟩, g2⟩,
      ⟨⟨![1, 2, 0], ![1, 64, 128], ![1, 4, 1], h3⟩, g3⟩, ⟨⟨![0, 2, 0], ![1, 64, 128], ![1, 4, 1], h4⟩, g4⟩,
      ⟨⟨![1, 1, 0], ![1, 64, 128], ![1, 4, 1], h5⟩, g5⟩, ⟨⟨![0, 1, 0], ![1, 64, 128], ![1, 4, 1], h6_⟩, g6⟩,
      ⟨⟨![1, 0, 0], ![1, 64, 128], ![1, 4, 1], h7_⟩, g7⟩, ⟨⟨![0, 0, 0], ![1, 64, 128], ![1, 4, 1], h8⟩, g8⟩] : List (Rect S2x256x128)), y ∈ r.set := by
  have b0 : (y 0).val < 2 := (y 0).isLt
  have b1 : (y 1).val < 256 := (y 1).isLt
  have b2 : (y 2).val < 128 := (y 2).isLt
  have key : ∀ (o p : ℕ) (h) (g), (y 0).val = o → (y 1).val % 4 = p →
      y ∈ (⟨⟨![o, p, 0], ![1, 64, 128], ![1, 4, 1], h⟩, g⟩ : Rect S2x256x128).set := by
    intro o p h g ho hp
    refine (LoadRect.mem_set ..).mpr fun a => ?_
    match a with
    | 0 => exact ⟨0, by show 0 < 1; omega, by show (y 0).val = o + 1 * 0; omega⟩
    | 1 => exact ⟨(y 1).val / 4, by show (y 1).val / 4 < 64; omega, by show (y 1).val = p + 4 * ((y 1).val / 4); omega⟩
    | 2 => exact ⟨(y 2).val, by show (y 2).val < 128; omega, by show (y 2).val = 0 + 1 * (y 2).val; omega⟩
  have h6 : (y 0).val = 0 ∨ (y 0).val = 1 := by omega
  have h7 : (y 1).val % 4 = 0 ∨ (y 1).val % 4 = 1 ∨ (y 1).val % 4 = 2 ∨ (y 1).val % 4 = 3 := by omega
  rcases h6 with h6 | h6 <;> rcases h7 with h7 | h7 | h7 | h7
  · exact ⟨_, by simp, key 0 0 h8 g8 h6 h7⟩
  · exact ⟨_, by simp, key 0 1 h6_ g6 h6 h7⟩
  · exact ⟨_, by simp, key 0 2 h4 g4 h6 h7⟩
  · exact ⟨_, by simp, key 0 3 h2 g2 h6 h7⟩
  · exact ⟨_, by simp, key 1 0 h7_ g7 h6 h7⟩
  · exact ⟨_, by simp, key 1 1 h5 g5 h6 h7⟩
  · exact ⟨_, by simp, key 1 2 h3 g3 h6 h7⟩
  · exact ⟨_, by simp, key 1 3 h1 g1 h6 h7⟩

/-- The codes as whole numbers of 8 bits: token by token, entry by entry. -/
def codesOf (A : S32x256x256.Idx → EReal) (inv : S1x256.Idx → EReal) : S256x8192.Idx → BitVec 8 := fun y =>
  Ideal.fptosi 8 (clip7 (box A ((y 1).val / 256) (64 * ((y 1).val % 4) + (y 1).val % 256 / 4) (y 0) * inv (ix2 0 (y 0))))

theorem codesOf_emb (A inv) (o p a : ℕ) (hp : p = 256 * a) (h) (x0 : Fin 128) (x1 : Fin 256) (ho : o + x0.val < 256) :
    codesOf A inv ((Rect.unit (s := S256x8192) ![o, p] ![128, 256] h).emb (ix2 x0 x1))
      = Ideal.fptosi 8 (clip7 (box A a (64 * (x1.val % 4) + x1.val / 4) ⟨o + x0.val, ho⟩ * inv (ix2 0 ⟨o + x0.val, ho⟩))) := by
  unfold codesOf
  have e : ((Rect.unit (s := S256x8192) ![o, p] ![128, 256] h).emb (ix2 x0 x1)) 0 = (⟨o + x0.val, ho⟩ : Fin 256) :=
    Fin.ext (by show o + 1 * x0.val = o + x0.val; omega)
  have e1 : (((Rect.unit (s := S256x8192) ![o, p] ![128, 256] h).emb (ix2 x0 x1)) 1).val = 256 * a + x1.val := by
    show p + 1 * x1.val = 256 * a + x1.val; omega
  rw [e, e1, show (256 * a + x1.val) / 256 = a by omega, show (256 * a + x1.val) % 256 = x1.val by omega,
    show (256 * a + x1.val) % 4 = x1.val % 4 by omega]

end Cert.Proof.KernelIdeal

end
-- ==== Proof.KernelIdealCodes.lean ====
/- A trip of the rounding loop stores its codes. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealCodesLib
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

open Cert.Proof

variable (v70 : FVec Ideal S1x256 .f32)

set_option maxHeartbeats 8000000 in
/-- A trip stores the codes of its four chunks. -/
theorem codes_pieces (X9) (f5) (f10) (f11) (k : Fin k0_t3_loop.trips) :
    View.PiecesOf (codesOf (arg9.view.read (Elt Ideal) X9) v70) (tripL_k0_t3 (F := Ideal) 𝒱 c bd arg0 harg0 arg1 harg1 arg2 harg2 arg3 harg3 arg4 harg4 arg5 harg5 arg6 harg6 arg7 harg7 arg8 harg8 arg9 harg9 arg10 harg10 arg11 harg11 v70 X9 k f5 f10 f11).1 := by
  have hk : k.val < 8 := Nat.lt_of_lt_of_le k.isLt k0_t3_abs.2.1
  have g0 := iv_nat4' k.val (by omega) 0 (by omega)
  have g1 := iv_nat4' k.val (by omega) 1 (by omega)
  have g2 := iv_nat4' k.val (by omega) 2 (by omega)
  have g3 := iv_nat4' k.val (by omega) 3 (by omega)
  have o0 := iv_nat1024 k.val (by omega) 0 (by omega)
  have o1 := iv_nat1024 k.val (by omega) 1 (by omega)
  have o2 := iv_nat1024 k.val (by omega) 2 (by omega)
  have o3 := iv_nat1024 k.val (by omega) 3 (by omega)
  unfold tripL_k0_t3 trip_k0_t3
  sl_unfold_words
  dsimp only
  simp only [View.readAt_eq_ld]
  generalize View.read (Elt Ideal) arg9.view X9 = A9
  refine ⟨fun x => ?_, fun x => ?_, fun x => ?_, fun x => ?_, fun x => ?_, fun x => ?_, fun x => ?_, fun x => ?_, trivial⟩
  · generalize hN : View.read (Elt Ideal) arg11.view (View.writes arg11.view (Elt Ideal) f11 _) = R
    have hR : R = natOf A9 v70 (4 * k.val + 3) := by
      refine hN.symm.trans (read_eight arg11.view _ _ _ _ _ _ _ _ _ _ _ ⟨fun x => ?_, fun x => ?_, fun x => ?_, fun x => ?_, fun x => ?_, fun x => ?_, fun x => ?_, fun x => ?_, trivial⟩
        (fun y => nat_rects y _ _ _ _ _ _ _ _ _ _ _ _ _ _ _ _))
      all_goals
        idx_vars x
        refine Eq.trans ?_ (natOf_emb A9 v70 _ _ _ (by omega) (by omega) _ _ x0 x1 x2).symm
        unfold_payloads
        pointwise
        simp only [g0, g1, g2, g3, box_of, lit_seven, lit_neg_seven]
        rfl
    rw [hR]
    idx_vars x
    refine Eq.trans ?_ (codesOf_emb A9 v70 _ _ (4 * k.val + 3) o3 _ x0 x1 (by omega)).symm
    unfold_payloads
    pointwise
    first | rfl | exact congrArg (Ideal.fptosi 8) (natOf_low ..)
  · generalize hN : View.read (Elt Ideal) arg11.view (View.writes arg11.view (Elt Ideal) f11 _) = R
    have hR : R = natOf A9 v70 (4 * k.val + 3) := by
      refine hN.symm.trans (read_eight arg11.view _ _ _ _ _ _ _ _ _ _ _ ⟨fun x => ?_, fun x => ?_, fun x => ?_, fun x => ?_, fun x => ?_, fun x => ?_, fun x => ?_, fun x => ?_, trivial⟩
        (fun y => nat_rects y _ _ _ _ _ _ _ _ _ _ _ _ _ _ _ _))
      all_goals
        idx_vars x
        refine Eq.trans ?_ (natOf_emb A9 v70 _ _ _ (by omega) (by omega) _ _ x0 x1 x2).symm
        unfold_payloads
        pointwise
        simp only [g0, g1, g2, g3, box_of, lit_seven, lit_neg_seven]
        rfl
    rw [hR]
    idx_vars x
    refine Eq.trans ?_ (codesOf_emb A9 v70 _ _ (4 * k.val + 3) o3 _ x0 x1 (by omega)).symm
    unfold_payloads
    pointwise
    first | rfl | exact congrArg (Ideal.fptosi 8) (natOf_low ..)
  · generalize hN : View.read (Elt Ideal) arg11.view (View.writes arg11.view (Elt Ideal) f11 _) = R
    have hR : R = natOf A9 v70 (4 * k.val + 2) := by
      refine hN.symm.trans (read_eight arg11.view _ _ _ _ _ _ _ _ _ _ _ ⟨fun x => ?_, fun x => ?_, fun x => ?_, fun x => ?_, fun x => ?_, fun x => ?_, fun x => ?_, fun x => ?_, trivial⟩
        (fun y => nat_rects y _ _ _ _ _ _ _ _ _ _ _ _ _ _ _ _))
      all_goals
        idx_vars x
        refine Eq.trans ?_ (natOf_emb A9 v70 _ _ _ (by omega) (by omega) _ _ x0 x1 x2).symm
        unfold_payloads
        pointwise
        simp only [g0, g1, g2, g3, box_of, lit_seven, lit_neg_seven]
        rfl
    rw [hR]
    idx_vars x
    refine Eq.trans ?_ (codesOf_emb A9 v70 _ _ (4 * k.val + 2) o2 _ x0 x1 (by omega)).symm
    unfold_payloads
    pointwise
    first | rfl | exact congrArg (Ideal.fptosi 8) (natOf_low ..)
  · generalize hN : View.read (Elt Ideal) arg11.view (View.writes arg11.view (Elt Ideal) f11 _) = R
    have hR : R = natOf A9 v70 (4 * k.val + 2) := by
      refine hN.symm.trans (read_eight arg11.view _ _ _ _ _ _ _ _ _ _ _ ⟨fun x => ?_, fun x => ?_, fun x => ?_, fun x => ?_, fun x => ?_, fun x => ?_, fun x => ?_, fun x => ?_, trivial⟩
        (fun y => nat_rects y _ _ _ _ _ _ _ _ _ _ _ _ _ _ _ _))
      all_goals
        idx_vars x
        refine Eq.trans ?_ (natOf_emb A9 v70 _ _ _ (by omega) (by omega) _ _ x0 x1 x2).symm
        unfold_payloads
        pointwise
        simp only [g0, g1, g2, g3, box_of, lit_seven, lit_neg_seven]
        rfl
    rw [hR]
    idx_vars x
    refine Eq.trans ?_ (codesOf_emb A9 v70 _ _ (4 * k.val + 2) o2 _ x0 x1 (by omega)).symm
    unfold_payloads
    pointwise
    first | rfl | exact congrArg (Ideal.fptosi 8) (natOf_low ..)
  · generalize hN : View.read (Elt Ideal) arg11.view (View.writes arg11.view (Elt Ideal) f11 _) = R
    have hR : R = natOf A9 v70 (4 * k.val + 1) := by
      refine hN.symm.trans (read_eight arg11.view _ _ _ _ _ _ _ _ _ _ _ ⟨fun x => ?_, fun x => ?_, fun x => ?_, fun x => ?_, fun x => ?_, fun x => ?_, fun x => ?_, fun x => ?_, trivial⟩
        (fun y => nat_rects y _ _ _ _ _ _ _ _ _ _ _ _ _ _ _ _))
      all_goals
        idx_vars x
        refine Eq.trans ?_ (natOf_emb A9 v70 _ _ _ (by omega) (by omega) _ _ x0 x1 x2).symm
        unfold_payloads
        pointwise
        simp only [g0, g1, g2, g3, box_of, lit_seven, lit_neg_seven]
        rfl
    rw [hR]
    idx_vars x
    refine Eq.trans ?_ (codesOf_emb A9 v70 _ _ (4 * k.val + 1) o1 _ x0 x1 (by omega)).symm
    unfold_payloads
    pointwise
    first | rfl | exact congrArg (Ideal.fptosi 8) (natOf_low ..)
  · generalize hN : View.read (Elt Ideal) arg11.view (View.writes arg11.view (Elt Ideal) f11 _) = R
    have hR : R = natOf A9 v70 (4 * k.val + 1) := by
      refine hN.symm.trans (read_eight arg11.view _ _ _ _ _ _ _ _ _ _ _ ⟨fun x => ?_, fun x => ?_, fun x => ?_, fun x => ?_, fun x => ?_, fun x => ?_, fun x => ?_, fun x => ?_, trivial⟩
        (fun y => nat_rects y _ _ _ _ _ _ _ _ _ _ _ _ _ _ _ _))
      all_goals
        idx_vars x
        refine Eq.trans ?_ (natOf_emb A9 v70 _ _ _ (by omega) (by omega) _ _ x0 x1 x2).symm
        unfold_payloads
        pointwise
        simp only [g0, g1, g2, g3, box_of, lit_seven, lit_neg_seven]
        rfl
    rw [hR]
    idx_vars x
    refine Eq.trans ?_ (codesOf_emb A9 v70 _ _ (4 * k.val + 1) o1 _ x0 x1 (by omega)).symm
    unfold_payloads
    pointwise
    first | rfl | exact congrArg (Ideal.fptosi 8) (natOf_low ..)
  · generalize hN : View.read (Elt Ideal) arg11.view (View.writes arg11.view (Elt Ideal) f11 _) = R
    have hR : R = natOf A9 v70 (4 * k.val + 0) := by
      refine hN.symm.trans (read_eight arg11.view _ _ _ _ _ _ _ _ _ _ _ ⟨fun x => ?_, fun x => ?_, fun x => ?_, fun x => ?_, fun x => ?_, fun x => ?_, fun x => ?_, fun x => ?_, trivial⟩
        (fun y => nat_rects y _ _ _ _ _ _ _ _ _ _ _ _ _ _ _ _))
      all_goals
        idx_vars x
        refine Eq.trans ?_ (natOf_emb A9 v70 _ _ _ (by omega) (by omega) _ _ x0 x1 x2).symm
        unfold_payloads
        pointwise
        simp only [g0, g1, g2, g3, box_of, lit_seven, lit_neg_seven]
        rfl
    rw [hR]
    idx_vars x
    refine Eq.trans ?_ (codesOf_emb A9 v70 _ _ (4 * k.val + 0) o0 _ x0 x1 (by omega)).symm
    unfold_payloads
    pointwise
    first | rfl | exact congrArg (Ideal.fptosi 8) (natOf_low ..)
  · generalize hN : View.read (Elt Ideal) arg11.view (View.writes arg11.view (Elt Ideal) f11 _) = R
    have hR : R = natOf A9 v70 (4 * k.val + 0) := by
      refine hN.symm.trans (read_eight arg11.view _ _ _ _ _ _ _ _ _ _ _ ⟨fun x => ?_, fun x => ?_, fun x => ?_, fun x => ?_, fun x => ?_, fun x => ?_, fun x => ?_, fun x => ?_, trivial⟩
        (fun y => nat_rects y _ _ _ _ _ _ _ _ _ _ _ _ _ _ _ _))
      all_goals
        idx_vars x
        refine Eq.trans ?_ (natOf_emb A9 v70 _ _ _ (by omega) (by omega) _ _ x0 x1 x2).symm
        unfold_payloads
        pointwise
        simp only [g0, g1, g2, g3, box_of, lit_seven, lit_neg_seven]
        rfl
    rw [hR]
    idx_vars x
    refine Eq.trans ?_ (codesOf_emb A9 v70 _ _ (4 * k.val + 0) o0 _ x0 x1 (by omega)).symm
    unfold_payloads
    pointwise
    first | rfl | exact congrArg (Ideal.fptosi 8) (natOf_low ..)

theorem mem_unit2 (o p a b : ℕ) (h) (y : S256x8192.Idx) :
    y ∈ (Rect.unit (s := S256x8192) ![o, p] ![a, b] h).set
      ↔ (o ≤ (y 0).val ∧ (y 0).val < o + a) ∧ (p ≤ (y 1).val ∧ (y 1).val < p + b) := by
  rw [Rect.mem_set_unit]
  exact ⟨fun h => ⟨h 0, h 1⟩, fun h i => match i with | 0 => h.1 | 1 => h.2⟩

set_option maxHeartbeats 2000000 in
/-- A trip stores columns `1024 * k` up to `1024 * k + 1024` of the codes. -/
theorem codes_mem (X9) (f5) (f10) (f11) (k : Fin k0_t3_loop.trips) (y : S256x8192.Idx) :
    (∃ r ∈ (tripL_k0_t3 (F := Ideal) 𝒱 c bd arg0 harg0 arg1 harg1 arg2 harg2 arg3 harg3 arg4 harg4 arg5 harg5 arg6 harg6 arg7 harg7 arg8 harg8 arg9 harg9 arg10 harg10 arg11 harg11 v70 X9 k f5 f10 f11).1.map Sigma.fst, y ∈ r.set)
      ↔ 1024 * k.val ≤ (y 1).val ∧ (y 1).val < 1024 * k.val + 1024 := by
  have hk : k.val < 8 := Nat.lt_of_lt_of_le k.isLt k0_t3_abs.2.1
  have o0 := iv_nat1024 k.val (by omega) 0 (by omega)
  have o1 := iv_nat1024 k.val (by omega) 1 (by omega)
  have o2 := iv_nat1024 k.val (by omega) 2 (by omega)
  have o3 := iv_nat1024 k.val (by omega) 3 (by omega)
  have b0 : (y 0).val < 256 := (y 0).isLt
  unfold tripL_k0_t3 trip_k0_t3
  sl_unfold_words
  dsimp only [List.map]
  simp only [List.mem_cons, List.not_mem_nil, or_false, exists_eq_or_imp, exists_eq_left, mem_unit2, o0, o1, o2, o3]
  constructor
  · rintro (h | h | h | h | h | h | h | h) <;> exact ⟨by omega, by omega⟩
  · rintro ⟨h4, h5⟩
    omega

end Cert.Proof.KernelIdeal

end
-- ==== Proof.KernelIdealCodesLoop.lean ====
/- The whole rounding loop. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealCodes
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

open Cert.Proof

variable (v70 : FVec Ideal S1x256 .f32)

/-- After `n` trips the first `4 * n` rows are the packed codes. -/
theorem pack_loop (X9 G5 G10 G11) (n : ℕ) (hn : n ≤ 8) (y : S32x256x256.Idx) :
    arg10.view.read (Elt Ideal) (arg10.view.writes (Elt Ideal) G10 (pb_k0_t3 (F := Ideal) 𝒱 c bd arg0 harg0 arg1 harg1 arg2 harg2 arg3 harg3 arg4 harg4 arg5 harg5 arg6 harg6 arg7 harg7 arg8 harg8 arg9 harg9 arg10 harg10 arg11 harg11 v70 X9 G5 G10 G11 n).2.1) y
      = if (y 0).val < 4 * n then packOf (arg9.view.read (Elt Ideal) X9) v70 y else arg10.view.read (Elt Ideal) G10 y := by
  induction n with
  | zero => rw [if_neg (by omega)]; rfl
  | succ n ih =>
    have ih1 := ih (by omega)
    have ht : n < k0_t3_loop.trips := by have : k0_t3_loop.trips = 8 := by decide +kernel
                                         omega
    have hs := pb_k0_t3_succ (F := Ideal) 𝒱 c bd arg0 harg0 arg1 harg1 arg2 harg2 arg3 harg3 arg4 harg4 arg5 harg5 arg6 harg6 arg7 harg7 arg8 harg8 arg9 harg9 arg10 harg10 arg11 harg11 v70 X9 G5 G10 G11 ⟨n, ht⟩
    dsimp only at hs
    rw [hs]
    dsimp only
    rw [View.writes_append, read_writes_pieces _ _ _ _ _ (pack_pieces ..)]
    simp only [pack_mem, ih1]
    by_cases h1 : 4 * n ≤ (y 0).val ∧ (y 0).val < 4 * n + 4
    · rw [if_pos h1, if_pos (by omega)]
    · rw [if_neg h1]
      by_cases h2 : (y 0).val < 4 * n
      · rw [if_pos h2, if_pos (by omega)]
      · rw [if_neg h2, if_neg (by omega)]

/-- After `n` trips the first `1024 * n` columns are the codes. -/
theorem codes_loop (X9 G5 G10 G11) (n : ℕ) (hn : n ≤ 8) (y : S256x8192.Idx) :
    arg5.view.read (Elt Ideal) (arg5.view.writes (Elt Ideal) G5 (pb_k0_t3 (F := Ideal) 𝒱 c bd arg0 harg0 arg1 harg1 arg2 harg2 arg3 harg3 arg4 harg4 arg5 harg5 arg6 harg6 arg7 harg7 arg8 harg8 arg9 harg9 arg10 harg10 arg11 harg11 v70 X9 G5 G10 G11 n).1) y
      = if (y 1).val < 1024 * n then codesOf (arg9.view.read (Elt Ideal) X9) v70 y else arg5.view.read (Elt Ideal) G5 y := by
  induction n with
  | zero => rw [if_neg (by omega)]; rfl
  | succ n ih =>
    have ih1 := ih (by omega)
    have ht : n < k0_t3_loop.trips := by have : k0_t3_loop.trips = 8 := by decide +kernel
                                         omega
    have hs := pb_k0_t3_succ (F := Ideal) 𝒱 c bd arg0 harg0 arg1 harg1 arg2 harg2 arg3 harg3 arg4 harg4 arg5 harg5 arg6 harg6 arg7 harg7 arg8 harg8 arg9 harg9 arg10 harg10 arg11 harg11 v70 X9 G5 G10 G11 ⟨n, ht⟩
    dsimp only at hs
    rw [hs]
    dsimp only
    rw [View.writes_append, read_writes_pieces _ _ _ _ _ (codes_pieces ..)]
    simp only [codes_mem, ih1]
    by_cases h1 : 1024 * n ≤ (y 1).val ∧ (y 1).val < 1024 * n + 1024
    · rw [if_pos h1, if_pos (by omega)]
    · rw [if_neg h1]
      by_cases h2 : (y 1).val < 1024 * n
      · rw [if_pos h2, if_pos (by omega)]
      · rw [if_neg h2, if_neg (by omega)]

end Cert.Proof.KernelIdeal

end
-- ==== Proof.KernelIdealFly.lean ====
/- The second loop by values: after it, the box holds the butterfly across the chunks, and the carried value the
   largest magnitudes. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealValueLib
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

open Cert.Proof

variable (v30 : FVec Ideal S32x256 .f32) (v37 : Vec Ideal S1x32x256 .f32)

theorem flyOf_emb (A : S32x256x256.Idx → EReal) (cc o b : ℕ) (inb : ∀ a, (![cc, o, b] : Fin 3 → ℕ) a + (![1, 8, 128] : Fin 3 → ℕ) a ≤ S32x256x256.size a)
    (x0 : Fin 1) (x1 : Fin 8) (x2 : Fin 128) (h1 : o + x1.val < 256) (h2 : b + x2.val < 256) :
    flyOf A ((Rect.unit (s := S32x256x256) ![cc, o, b] ![1, 8, 128] inb).emb (ix3 x0 x1 x2))
      = bf32 (row A ⟨o + x1, h1⟩ ⟨b + x2, h2⟩) cc := by
  have e1 : (Rect.unit (s := S32x256x256) ![cc, o, b] ![1, 8, 128] inb).emb (ix3 x0 x1 x2) 1 = (⟨o + x1, h1⟩ : Fin 256) := Fin.ext (by show o + 1 * x1.val = _; simp)
  have e2 : (Rect.unit (s := S32x256x256) ![cc, o, b] ![1, 8, 128] inb).emb (ix3 x0 x1 x2) 2 = (⟨b + x2, h2⟩ : Fin 256) := Fin.ext (by show b + 1 * x2.val = _; simp)
  have e0 : ((Rect.unit (s := S32x256x256) ![cc, o, b] ![1, 8, 128] inb).emb (ix3 x0 x1 x2) 0).val = cc := by show cc + 1 * x0.val = _; omega
  unfold flyOf
  rw [e0]
  exact congrArg (fun z => bf32 z cc) (by rw [e1, e2])

set_option maxHeartbeats 8000000 in
/-- Every store of a trip is a block of the butterfly of what the box held. -/
theorem fly_pieces (X9) (acc) (k : Fin k0_t2_loop.trips) :
    View.PiecesOf (flyOf (arg9.view.read (Elt Ideal) X9)) (tripL_k0_t2 (F := Ideal) 𝒱 c bd arg0 harg0 arg1 harg1 arg2 harg2 arg3 harg3 arg4 harg4 arg5 harg5 arg6 harg6 arg7 harg7 arg8 harg8 arg9 harg9 arg10 harg10 arg11 harg11 v30 v37 k acc X9) := by
  have hk : k.val < 32 := Nat.lt_of_lt_of_le k.isLt k0_t2_abs.2.1
  have ho := iv_nat8 _ hk
  unfold tripL_k0_t2 trip_k0_t2
  sl_unfold_words
  dsimp only
  simp only [View.readAt_eq_ld]
  generalize View.read (Elt Ideal) arg9.view X9 = A
  refine ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, trivial⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
  all_goals
    idx_vars x
    refine Eq.trans ?_ (flyOf_emb A _ _ _ _ x0 x1 x2 (by omega) (by omega)).symm
    unfold_payloads
    pointwise
    simp only [bf32, lev, row, Nat.reduceMod, Nat.reduceDiv, Nat.reduceAdd, Nat.reduceSub, Nat.reduceLT, Nat.reduceEqDiff, ↓reduceDIte, ↓reduceIte, one_ne_zero]
    rfl

theorem fly_inb (o : ℕ) (ho : o + 8 ≤ 256) (n : Fin 64) :
    ∀ a, (![31 - n.val % 32, o, 128 * (1 - n.val / 32)] : Fin 3 → ℕ) a + (![1, 8, 128] : Fin 3 → ℕ) a ≤ S32x256x256.size a := by
  intro a
  match a with
  | 0 => show 31 - n.val % 32 + 1 ≤ 32; omega
  | 1 => exact ho
  | 2 => show 128 * (1 - n.val / 32) + 128 ≤ 256; omega

set_option maxHeartbeats 4000000 in
theorem fly_rects (X9) (acc) (k : Fin k0_t2_loop.trips)
    (h : BitVec.toNat (Scalar.indexCast (Scalar.muli (Scf.iv 0#32 1#32 k.val) 8#32)) + 8 ≤ 256) :
    (tripL_k0_t2 (F := Ideal) 𝒱 c bd arg0 harg0 arg1 harg1 arg2 harg2 arg3 harg3 arg4 harg4 arg5 harg5 arg6 harg6 arg7 harg7 arg8 harg8 arg9 harg9 arg10 harg10 arg11 harg11 v30 v37 k acc X9).map Sigma.fst
      = List.ofFn fun n : Fin 64 => Rect.unit (s := S32x256x256)
          ![31 - n.val % 32, BitVec.toNat (Scalar.indexCast (Scalar.muli (Scf.iv 0#32 1#32 k.val) 8#32)), 128 * (1 - n.val / 32)] ![1, 8, 128]
          (fly_inb _ h n) := by
  unfold tripL_k0_t2 trip_k0_t2
  rfl

/-- A trip stores rows `8 * k` up to `8 * k + 8` of the whole box. -/
theorem fly_mem (X9) (acc) (k : Fin k0_t2_loop.trips) (y : S32x256x256.Idx) :
    (∃ r ∈ (tripL_k0_t2 (F := Ideal) 𝒱 c bd arg0 harg0 arg1 harg1 arg2 harg2 arg3 harg3 arg4 harg4 arg5 harg5 arg6 harg6 arg7 harg7 arg8 harg8 arg9 harg9 arg10 harg10 arg11 harg11 v30 v37 k acc X9).map Sigma.fst, y ∈ r.set)
      ↔ 8 * k.val ≤ (y 1).val ∧ (y 1).val < 8 * k.val + 8 := by
  have hk : k.val < 32 := Nat.lt_of_lt_of_le k.isLt k0_t2_abs.2.1
  have ho := iv_nat8 _ hk
  rw [fly_rects 𝒱 c bd arg0 harg0 arg1 harg1 arg2 harg2 arg3 harg3 arg4 harg4 arg5 harg5 arg6 harg6 arg7 harg7 arg8 harg8 arg9 harg9 arg10 harg10 arg11 harg11 v30 v37 X9 acc k (by omega)]
  simp only [List.mem_ofFn, exists_exists_eq_and, Rect.mem_set_unit]
  constructor
  · rintro ⟨n, hn⟩
    have h1 := hn 1
    simp only [Matrix.cons_val_one, Matrix.cons_val_zero] at h1
    omega
  · rintro ⟨h1, h2⟩
    have b0 : (y 0).val < 32 := (y 0).isLt
    have b2 : (y 2).val < 256 := (y 2).isLt
    refine ⟨⟨31 - (y 0).val + 32 * (1 - (y 2).val / 128), by omega⟩, fun a => ?_⟩
    match a with
    | 0 => show 31 - (31 - (y 0).val + 32 * (1 - (y 2).val / 128)) % 32 ≤ (y 0).val ∧ (y 0).val < 31 - (31 - (y 0).val + 32 * (1 - (y 2).val / 128)) % 32 + 1; omega
    | 1 => show BitVec.toNat (Scalar.indexCast (Scalar.muli (Scf.iv 0#32 1#32 k.val) 8#32)) ≤ (y 1).val ∧ (y 1).val < BitVec.toNat (Scalar.indexCast (Scalar.muli (Scf.iv 0#32 1#32 k.val) 8#32)) + 8; omega
    | 2 => show 128 * (1 - (31 - (y 0).val + 32 * (1 - (y 2).val / 128)) / 32) ≤ (y 2).val ∧ (y 2).val < 128 * (1 - (31 - (y 0).val + 32 * (1 - (y 2).val / 128)) / 32) + 128; omega

end Cert.Proof.KernelIdeal

end
-- ==== Proof.KernelIdealFlyMax.lean ====
/- What a trip of the second loop carries on: the largest magnitudes of the butterfly's rows. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealValueLib
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

open Cert.Proof

variable (v30 : FVec Ideal S32x256 .f32) (v37 : Vec Ideal S1x32x256 .f32)

set_option maxHeartbeats 8000000 in
/-- What a trip yields: at each of 8 rows and each token, the larger of the carried value and the largest magnitude of the
    butterfly there. -/
theorem fly_yield (X9) (acc : FVec Ideal S8x256 .f32) (k : Fin k0_t2_loop.trips) (r : Fin 8) (t : Fin 256) (hr : 8 * k.val + r.val < 256) :
    tripR_k0_t2 (F := Ideal) 𝒱 c bd arg0 harg0 arg1 harg1 arg2 harg2 arg3 harg3 arg4 harg4 arg5 harg5 arg6 harg6 arg7 harg7 arg8 harg8 arg9 harg9 arg10 harg10 arg11 harg11 v30 v37 k acc X9 (ix2 r t)
      = max (acc (ix2 r t)) (mx32 fun c => eabs (bf32 (row (arg9.view.read (Elt Ideal) X9) ⟨8 * k.val + r.val, hr⟩ t) c)) := by
  have hk : k.val < 32 := Nat.lt_of_lt_of_le k.isLt k0_t2_abs.2.1
  have ho := iv_nat8 _ hk
  have hrow : (⟨8 * k.val + r.val, hr⟩ : Fin 256) = ⟨BitVec.toNat (Scalar.indexCast (Scalar.muli (Scf.iv 0#32 1#32 k.val) 8#32)) + r.val, by omega⟩ := Fin.ext (by simp only [ho])
  rw [hrow]
  clear hrow
  unfold tripR_k0_t2 trip_k0_t2
  sl_unfold_words
  dsimp only
  simp only [View.readAt_eq_ld]
  generalize View.read (Elt Ideal) arg9.view X9 = A
  rcases Nat.lt_or_ge t.val 128 with ht | ht
  · obtain ⟨x, hx, rfl⟩ : ∃ x : Fin 128, ∃ h, t = ⟨0 + x.val, h⟩ := ⟨⟨t.val, ht⟩, by omega, Fin.ext (by simp)⟩
    unfold_payloads
    pointwise
    simp only [mx32, pw, eabs, bf32, lev, row, Nat.reduceMod, Nat.reduceDiv, Nat.reduceAdd, Nat.reduceSub, Nat.reduceMul, Nat.reduceLT, Nat.reduceEqDiff, ↓reduceDIte, ↓reduceIte, one_ne_zero, mul_zero, zero_add, Fin.is_lt]
    rfl
  · obtain ⟨x, hx, rfl⟩ : ∃ x : Fin 128, ∃ h, t = ⟨128 + x.val, h⟩ := ⟨⟨t.val - 128, by omega⟩, by simp; omega, Fin.ext (by show _ = 128 + (t.val - 128); omega)⟩
    unfold_payloads
    pointwise
    simp only [mx32, pw, eabs, bf32, lev, row, Nat.reduceMod, Nat.reduceDiv, Nat.reduceAdd, Nat.reduceSub, Nat.reduceMul, Nat.reduceLT, Nat.reduceEqDiff, ↓reduceDIte, ↓reduceIte, one_ne_zero, mul_zero, zero_add, Nat.add_sub_cancel_left, not_lt, Nat.le_add_right]
    rfl

end Cert.Proof.KernelIdeal

end
-- ==== Proof.KernelIdealFlyLoop.lean ====
/- The second loop after all its trips: the box holds the butterfly across the chunks, and the carried value is the least
   bound of the magnitudes in its row class. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealFly
public import proofs.«01_k».proof.Proof.KernelIdealFlyMax
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

open Cert.Proof

variable (v30 : FVec Ideal S32x256 .f32) (v37 : Vec Ideal S1x32x256 .f32)

theorem pw_le (f : ℕ → EReal) (n : ℕ) (z : EReal) : pw f n ≤ z ↔ f (2 * n) ≤ z ∧ f (2 * n + 1) ≤ z := max_le_iff

theorem mx32_le (f : ℕ → EReal) (z : EReal) : mx32 f ≤ z ↔ ∀ c < 32, f c ≤ z := by
  unfold mx32
  simp only [pw_le]
  constructor
  · intro h c hc
    interval_cases c <;> simp_all
  · intro h
    simp only [Nat.mul_zero, Nat.zero_add, Nat.mul_one, Nat.reduceMul, Nat.reduceAdd]
    refine ⟨⟨⟨⟨⟨?_, ?_⟩, ?_, ?_⟩, ⟨?_, ?_⟩, ?_, ?_⟩, ⟨⟨?_, ?_⟩, ?_, ?_⟩, ⟨?_, ?_⟩, ?_, ?_⟩, ⟨⟨⟨?_, ?_⟩, ?_, ?_⟩, ⟨?_, ?_⟩, ?_, ?_⟩, ⟨⟨?_, ?_⟩, ?_, ?_⟩, ⟨?_, ?_⟩, ?_, ?_⟩ <;> exact h _ (by omega)

/-- The second loop after `n` trips. -/
theorem fly_loop (G9) (init : FVec Ideal S8x256 .f32) (n : ℕ) (hn : n ≤ 32) :
    (∀ y, arg9.view.read (Elt Ideal) (arg9.view.writes (Elt Ideal) G9 (st_k0_t2 (F := Ideal) 𝒱 c bd arg0 harg0 arg1 harg1 arg2 harg2 arg3 harg3 arg4 harg4 arg5 harg5 arg6 harg6 arg7 harg7 arg8 harg8 arg9 harg9 arg10 harg10 arg11 harg11 v30 v37 G9 init n).2) y
      = if (y 1).val < 8 * n then flyOf (arg9.view.read (Elt Ideal) G9) y else arg9.view.read (Elt Ideal) G9 y)
    ∧ ∀ (r : Fin 8) (t : Fin 256) (z : EReal), (st_k0_t2 (F := Ideal) 𝒱 c bd arg0 harg0 arg1 harg1 arg2 harg2 arg3 harg3 arg4 harg4 arg5 harg5 arg6 harg6 arg7 harg7 arg8 harg8 arg9 harg9 arg10 harg10 arg11 harg11 v30 v37 G9 init n).1 (ix2 r t) ≤ z
      ↔ init (ix2 r t) ≤ z ∧ ∀ k < n, ∀ (h : 8 * k + r.val < 256), ∀ c < 32, eabs (bf32 (row (arg9.view.read (Elt Ideal) G9) ⟨8 * k + r.val, h⟩ t) c) ≤ z := by
  induction n with
  | zero =>
    refine ⟨fun y => ?_, fun r t z => ?_⟩
    · rw [if_neg (by omega)]; rfl
    · exact ⟨fun h => ⟨h, fun k hk => absurd hk (by omega)⟩, fun h => h.1⟩
  | succ n ih =>
    obtain ⟨ih1, ih2⟩ := ih (by omega)
    have ht : n < k0_t2_loop.trips := by have : k0_t2_loop.trips = 32 := by decide +kernel
                                         omega
    have hs := st_k0_t2_succ (F := Ideal) 𝒱 c bd arg0 harg0 arg1 harg1 arg2 harg2 arg3 harg3 arg4 harg4 arg5 harg5 arg6 harg6 arg7 harg7 arg8 harg8 arg9 harg9 arg10 harg10 arg11 harg11 v30 v37 G9 init ⟨n, ht⟩
    dsimp only at hs
    rw [hs]
    have hrow : ∀ (r : Fin 256) (t : Fin 256), 8 * n ≤ r.val →
        row (arg9.view.read (Elt Ideal) (arg9.view.writes (Elt Ideal) G9 (st_k0_t2 (F := Ideal) 𝒱 c bd arg0 harg0 arg1 harg1 arg2 harg2 arg3 harg3 arg4 harg4 arg5 harg5 arg6 harg6 arg7 harg7 arg8 harg8 arg9 harg9 arg10 harg10 arg11 harg11 v30 v37 G9 init n).2)) r t
          = row (arg9.view.read (Elt Ideal) G9) r t := by
      intro r t h
      funext c
      unfold row
      split
      · rw [ih1, if_neg (by show ¬ r.val < 8 * n; omega)]
      · rfl
    refine ⟨fun y => ?_, fun r t z => ?_⟩
    · dsimp only
      rw [View.writes_append, read_writes_pieces _ _ _ _ _ (fly_pieces ..)]
      simp only [fly_mem]
      by_cases h1 : 8 * n ≤ (y 1).val ∧ (y 1).val < 8 * n + 8
      · rw [if_pos h1, if_pos (by omega)]
        unfold flyOf
        exact congrArg (fun z => bf32 z (y 0).val) (hrow (y 1) (y 2) h1.1)
      · rw [if_neg h1, ih1]
        by_cases h2 : (y 1).val < 8 * n
        · rw [if_pos h2, if_pos (by omega)]
        · rw [if_neg h2, if_neg (by omega)]
    · dsimp only
      rw [fly_yield _ _ _ _ _ _ _ _ _ _ _ _ _ _ _ _ _ _ _ _ _ _ _ _ _ _ _ _ _ _ _ _ _ _ (by show 8 * n + r.val < 256; omega), max_le_iff, mx32_le, ih2]
      dsimp only
      rw [hrow _ _ (by show 8 * n ≤ 8 * n + r.val; omega)]
      constructor
      · rintro ⟨⟨h1, h2⟩, h3⟩
        refine ⟨h1, fun k hk h => ?_⟩
        by_cases hkn : k = n
        · subst hkn; exact h3
        · exact h2 k (by omega) h
      · rintro ⟨h1, h2⟩
        exact ⟨⟨h1, fun k hk => h2 k (by omega)⟩, h2 n (by omega) (by omega)⟩

end Cert.Proof.KernelIdeal

end
-- ==== Proof.KernelIdealToken.lean ====
/- The kernel's results as functions of its operands. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealMain
public import proofs.«01_k».proof.Proof.KernelIdealCodesLoop
public import proofs.«01_k».proof.Proof.KernelIdealHad
public import proofs.«01_k».proof.Proof.KernelIdealFlyLoop
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The scales: one per token, in two rows of 128. -/
def scalesV (X : S256x8192.Idx → EReal) (G : S32x256.Idx → EReal) : S2x128.Idx → EReal := fun y =>
  scaleOf (xrow X ⟨128 * (y 0).val + (y 1).val, by
    have h0 : (y 0).val < 2 := (y 0).isLt
    have h1 : (y 1).val < 128 := (y 1).isLt
    omega⟩) (grow G)

/-- The codes, a token to a row. -/
def codesV (X : S256x8192.Idx → EReal) (G : S32x256.Idx → EReal) : S256x8192.Idx → BitVec 8 := fun y =>
  Ideal.fptosi 8 (codeOf (xrow X (y 0)) (grow G) (y 1).val)

/-- The codes as the matrix product reads them. -/
def packV (X : S256x8192.Idx → EReal) (G : S32x256.Idx → EReal) : S32x256x256.Idx → EReal := fun y =>
  codeOf (xrow X (y 2)) (grow G) (256 * (4 * ((y 0).val / 4) + (y 1).val / 64) + (4 * ((y 1).val % 64) + (y 0).val % 4))

/-- The product. -/
def yV (X : S256x8192.Idx → EReal) (G : S32x256.Idx → EReal) (W : S3584x2048.Idx → BitVec 8) (ws : S1.Idx → EReal) : S256x3584.Idx → EReal :=
  yOf W ws (packV X G) (fun y => scaleOf (xrow X (y 1)) (grow G))

/-- From the transformed box, the sums of squares and the largest magnitudes: every token's scale, and the number each code
    rounds. -/
theorem token_final (X : S256x8192.Idx → EReal) (G : S32x256.Idx → EReal) (A : S32x256x256.Idx → EReal)
    (v42 : FVec Ideal S256x128 .f32) (v53 : FVec Ideal S8x256 .f32)
    (h9 : ∀ c p t, A (ix3 c p t) = had (xrow X t) (grow G) c.val p.val)
    (h42 : ∀ (t : Fin 256) (l : Fin 128), v42 (ix2 t l) = 0 + ∑ k ∈ Finset.range 32,
      (xrow X t (256 * k + l.val) * xrow X t (256 * k + l.val) + xrow X t (256 * k + (128 + l.val)) * xrow X t (256 * k + (128 + l.val))))
    (h53 : ∀ (r : Fin 8) (t : Fin 256) (z : EReal), v53 (ix2 r t) ≤ z
      ↔ 0 ≤ z ∧ ∀ k < 32, ∀ (h : 8 * k + r.val < 256), ∀ c < 32, eabs (had (xrow X t) (grow G) c (8 * k + r.val)) ≤ z) (t : Fin 256) :
    k0_pay668 v42 v53 (ix2 0 t) = scaleOf (xrow X t) (grow G)
    ∧ ∀ (c p : Fin 256), c.val < 32 → box A c.val p.val t * k0_pay669 v42 v53 (ix2 0 t)
        = Ideal.div (hOf (xrow X t) (grow G) (256 * c.val + walsh p.val)) (scaleOf (xrow X t) (grow G)) := by
  have hg : ∀ z, k0_pay666 v53 (ix2 0 t) ≤ z ↔ 0 ≤ z ∧ ∀ c < 32, ∀ p < 256, eabs (had (xrow X t) (grow G) c p) ≤ z := by
    intro z
    rw [gmax_at, Finset.fold_max_le]
    simp only [h53]
    constructor
    · rintro ⟨-, h⟩
      refine ⟨(h 0 (Finset.mem_univ _)).1, fun c hc p hp => ?_⟩
      have := (h ⟨p % 8, by omega⟩ (Finset.mem_univ _)).2 (p / 8) (by omega) (by show 8 * (p / 8) + p % 8 < 256; omega) c hc
      have e : 8 * (p / 8) + p % 8 = p := by omega
      rw [show 8 * (p / 8) + (⟨p % 8, by omega⟩ : Fin 8).val = p from e] at this
      exact this
    · rintro ⟨h0, h⟩
      exact ⟨bot_le, fun r _ => ⟨h0, fun k hk hr c hc => h c hc _ hr⟩⟩
  obtain ⟨k1, k2⟩ := kernel_token (xrow X t) (grow G) (fun j hj => xrow_zero X t j hj) _ hg
  have hs : ∑ l : Fin 128, v42 (ix2 t l) = ∑ j ∈ Finset.range 8192, xrow X t j * xrow X t j :=
    sum_squares (xrow X t) (fun l => v42 (ix2 t l)) (fun l => h42 t l)
  have ha : k0_pay667 v42 v53 (ix2 0 t) = ampOf (xrow X t) (grow G) := by
    rw [amp_at, hs]
    exact k1
  refine ⟨by rw [scale_at, ha]; rfl, fun c p hc => ?_⟩
  rw [inv_at, ha, ← box_of A c.val p.val t hc p.isLt, h9]
  exact k2 c.val hc p.val p.isLt

theorem codes_final (X : S256x8192.Idx → EReal) (G : S32x256.Idx → EReal) (A : S32x256x256.Idx → EReal) (inv : S1x256.Idx → EReal)
    (h : ∀ (t c p : Fin 256), c.val < 32 → box A c.val p.val t * inv (ix2 0 t)
        = Ideal.div (hOf (xrow X t) (grow G) (256 * c.val + walsh p.val)) (scaleOf (xrow X t) (grow G))) :
    codesOf A inv = codesV X G ∧ packOf A inv = packV X G := by
  constructor
  · funext y
    have h1 : (y 1).val < 8192 := (y 1).isLt
    unfold codesOf codesV codeOf clip7
    have e := h (y 0) ⟨(y 1).val / 256, by omega⟩ ⟨64 * ((y 1).val % 4) + (y 1).val % 256 / 4, by omega⟩ (by show (y 1).val / 256 < 32; omega)
    dsimp only at e
    rw [e, show 256 * ((y 1).val / 256) + walsh (64 * ((y 1).val % 4) + (y 1).val % 256 / 4) = (y 1).val by unfold walsh; rw [show (64 * ((y 1).val % 4) + (y 1).val % 256 / 4) % 64 = (y 1).val % 256 / 4 by omega, show (64 * ((y 1).val % 4) + (y 1).val % 256 / 4) / 64 = (y 1).val % 4 by omega]; omega]
  · funext y
    have h0 : (y 0).val < 32 := (y 0).isLt
    have h1 : (y 1).val < 256 := (y 1).isLt
    unfold packOf packV codeOf clip7
    have e := h (y 2) ⟨4 * ((y 0).val / 4) + (y 1).val / 64, by omega⟩ ⟨64 * ((y 0).val % 4) + (y 1).val % 64, by omega⟩
      (by show 4 * ((y 0).val / 4) + (y 1).val / 64 < 32; omega)
    dsimp only at e
    rw [e, show walsh (64 * ((y 0).val % 4) + (y 1).val % 64) = 4 * ((y 1).val % 64) + (y 0).val % 4 by unfold walsh; omega]

end Cert.Proof.KernelIdeal

end
-- ==== Proof.KernelIdealFinal.lean ====
/- What the kernel's loops leave, from the first to the last. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealToken
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

theorem trips1 : k0_t1_loop.trips = 32 := by decide +kernel
theorem trips2 : k0_t2_loop.trips = 32 := by decide +kernel
theorem trips3 : k0_t3_loop.trips = 8 := by decide +kernel
theorem trips4 : k0_t4_loop.trips = 7 := by decide +kernel

theorem zeros_at (y) : k0_pay659 (F := Ideal) y = 0 := by
  unfold_payloads
  pointwise

theorem zeros8_at (y) : k0_pay663 (F := Ideal) y = 0 := by
  unfold_payloads
  pointwise

/-- After the second loop: the box, and what the two loops carried. -/
theorem loops_final (X0) (X7) (X8) (G9) (G : S32x256.Idx → EReal) (v30 v37 w30 w37)
    (hH : ∀ p k, arg7.view.read (Elt Ideal) X7 (ix2 p k) = sgE p.val k.val)
    (h0 : ∀ c k, arg8.view.read (Elt Ideal) X8 (ix3 0 c k) = G (ix2 c k))
    (h1 : ∀ c k, arg8.view.read (Elt Ideal) X8 (ix3 1 c k) = G (ix2 c k) - G (ix2 c k))
    (h2 : ∀ c k, arg8.view.read (Elt Ideal) X8 (ix3 2 c k) = G (ix2 c k) - G (ix2 c k) - (G (ix2 c k) - G (ix2 c k))) :
    let X := arg0.view.read (Elt Ideal) X0
    let s1 := st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 X7 X8 (k0_pay659 (F := Ideal)) k0_t1_loop.trips
    let s2 := st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 s1.2) (k0_pay663 (F := Ideal)) k0_t2_loop.trips
    let A := arg9.view.read (Elt Ideal) (arg9.view.writes (Elt Ideal) G9 (s2.2 ++ s1.2))
    (∀ t : Fin 256, k0_pay668 s1.1 s2.1 (ix2 0 t) = scaleOf (xrow X t) (grow G))
    ∧ codesOf A (k0_pay669 s1.1 s2.1) = codesV X G ∧ packOf A (k0_pay669 s1.1 s2.1) = packV X G := by
  intro X s1 s2 A
  have a1 := had_loop 𝒱 c bd arg0 harg0 arg1 harg1 arg2 harg2 arg3 harg3 arg4 harg4 arg5 harg5 arg6 harg6 arg7 harg7 arg8 harg8 arg9 harg9 arg10 harg10 arg11 harg11 v30 v37 G9 X0 X7 X8 (k0_pay659 (F := Ideal)) k0_t1_loop.trips (by rw [trips1])
  have a2 := fly_loop 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 s1.2) (k0_pay663 (F := Ideal)) k0_t2_loop.trips (by rw [trips2])
  change (∀ y, arg9.view.read (Elt Ideal) (arg9.view.writes (Elt Ideal) G9 s1.2) y = _) ∧ (∀ (t : Fin 256) (l : Fin 128), s1.1 (ix2 t l) = _) at a1
  change (∀ y, arg9.view.read (Elt Ideal) (arg9.view.writes (Elt Ideal) (arg9.view.writes (Elt Ideal) G9 s1.2) s2.2) y = _)
    ∧ (∀ (r : Fin 8) (t : Fin 256) (z : EReal), s2.1 (ix2 r t) ≤ z ↔ _) at a2
  rw [← View.writes_append] at a2
  have hb : ∀ (c' : Fin 32) (p t : Fin 256), arg9.view.read (Elt Ideal) (arg9.view.writes (Elt Ideal) G9 s1.2) (ix3 c' p t)
      = chunk (xrow X t) (grow G) c'.val p.val := by
    intro c' p t
    refine (a1.1 _).trans ((if_pos ?_).trans (hadOf_chunk X G _ _ hH h0 h1 h2 c' p t))
    show c'.val < _
    rw [trips1]; exact c'.isLt
  have hA : ∀ (c' : Fin 32) (p t : Fin 256), A (ix3 c' p t) = had (xrow X t) (grow G) c'.val p.val := by
    intro c' p t
    refine (a2.1 _).trans ((if_pos ?_).trans (flyOf_had _ _ _ c' p t fun c'' => hb c'' p t))
    show p.val < _
    rw [trips2]; omega
  have h42 : ∀ (t : Fin 256) (l : Fin 128), s1.1 (ix2 t l) = 0 + ∑ k ∈ Finset.range 32,
      (xrow X t (256 * k + l.val) * xrow X t (256 * k + l.val) + xrow X t (256 * k + (128 + l.val)) * xrow X t (256 * k + (128 + l.val))) := by
    intro t l
    refine (a1.2 t l).trans ?_
    rw [zeros_at, trips1]
  have h53 : ∀ (r : Fin 8) (t : Fin 256) (z : EReal), s2.1 (ix2 r t) ≤ z
      ↔ 0 ≤ z ∧ ∀ k < 32, ∀ (h : 8 * k + r.val < 256), ∀ c < 32, eabs (had (xrow X t) (grow G) c (8 * k + r.val)) ≤ z := by
    intro r t z
    refine (a2.2 r t z).trans ?_
    rw [zeros8_at, trips2]
    refine and_congr Iff.rfl (forall_congr' fun k => imp_congr Iff.rfl (forall_congr' fun h => forall_congr' fun c' => forall_congr' fun hc => ?_))
    have e := flyOf_had _ (xrow X t) (grow G) ⟨c', hc⟩ ⟨8 * k + r.val, h⟩ t fun c'' => hb c'' _ t
    change bf32 (row _ ⟨8 * k + r.val, h⟩ t) c' = had _ _ c' (8 * k + r.val) at e
    rw [e]
  have tf := token_final X G A s1.1 s2.1 hA h42 h53
  exact ⟨fun t => (tf t).1, codes_final X G A _ fun t c' p hc => (tf t).2 c' p hc⟩

end Cert.Proof.KernelIdeal

end
-- ==== Proof.KernelIdealState.lean ====
/- The buffers' contents at the end of the run. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealFinal
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

/-- The signs' buffer after its one store. -/
theorem signs_read (f) (p k : Fin 256) :
    arg7.view.read (Elt Ideal) (arg7.view.writes (Elt Ideal) f
      [⟨Rect.unit ![0, 0] S256x256.size inb_S256x256_S256x256_0_0, k0_pay651 (F := Ideal)⟩]) (ix2 p k) = sgE p.val k.val := by
  refine (read_writes_pieces arg7.view f (fun y => sgE (y 0).val (y 1).val) (ix2 p k) _ ?_).trans (if_pos ?_)
  rotate_left
  · refine ⟨_, List.mem_singleton.mpr rfl, (Rect.mem_set_unit (s := S256x256) (off := ![0, 0]) (size := S256x256.size) (inb := inb_S256x256_S256x256_0_0) ..).mpr fun a => ?_⟩
    match a with
    | ⟨0, _⟩ => exact ⟨Nat.zero_le _, by show p.val < 0 + 256; omega⟩
    | ⟨1, _⟩ => exact ⟨Nat.zero_le _, by show k.val < 0 + 256; omega⟩
  · refine ⟨fun x => ?_, trivial⟩
    idx_vars x
    refine (sign_at _ _).trans ?_
    show sgE x0.val x1.val = sgE (0 + 1 * x0.val) (0 + 1 * x1.val)
    rw [Nat.zero_add, Nat.zero_add, Nat.one_mul, Nat.one_mul]

/-- The gain's three parts. -/
def gainParts (G : S32x256.Idx → EReal) : S3x32x256.Idx → EReal := fun y =>
  if (y 0).val = 0 then G (ix2 (y 1) (y 2)) else if (y 0).val = 1 then G (ix2 (y 1) (y 2)) - G (ix2 (y 1) (y 2))
  else G (ix2 (y 1) (y 2)) - G (ix2 (y 1) (y 2)) - (G (ix2 (y 1) (y 2)) - G (ix2 (y 1) (y 2)))

theorem gainParts_emb (G : S32x256.Idx → EReal) (o : ℕ) (h) (x0 : Fin 1) (x1 : Fin 32) (x2 : Fin 256) (ho : o < 3) :
    gainParts G ((Rect.unit (s := S3x32x256) ![o, 0, 0] S1x32x256.size h).emb (ix3 x0 x1 x2)) = gainParts G (ix3 ⟨o, ho⟩ x1 x2) := by
  obtain rfl : x0 = 0 := Subsingleton.elim _ _
  refine congrArg _ ?_
  funext a
  match a with
  | ⟨0, _⟩ => rfl
  | ⟨1, _⟩ => exact Fin.ext (by show 0 + 1 * x1.val = x1.val; omega)
  | ⟨2, _⟩ => exact Fin.ext (by show 0 + 1 * x2.val = x2.val; omega)

theorem gains_read (f) (G : Vec Ideal S32x256 .f32) (y : S3x32x256.Idx) :
    arg8.view.read (Elt Ideal) (arg8.view.writes (Elt Ideal) f
      [⟨Rect.unit ![2, 0, 0] S1x32x256.size inb_S3x32x256_S1x32x256_2_0_0, k0_pay658 (k0_pay655 G)⟩,
       ⟨Rect.unit ![1, 0, 0] S1x32x256.size inb_S3x32x256_S1x32x256_1_0_0, k0_pay657 G⟩,
       ⟨Rect.unit ![0, 0, 0] S1x32x256.size inb_S3x32x256_S1x32x256_0_0_0, k0_pay656 G⟩]) y = gainParts G y := by
  refine (read_writes_pieces arg8.view f (gainParts G) y _ ?_).trans (if_pos ?_)
  rotate_left
  · have h0 : (y 0).val < 3 := (y 0).isLt
    have h1 : (y 1).val < 32 := (y 1).isLt
    have h2 : (y 2).val < 256 := (y 2).isLt
    have key : ∀ (o : ℕ) (h), (y 0).val = o → y ∈ (Rect.unit (s := S3x32x256) ![o, 0, 0] S1x32x256.size h).set := by
      intro o h e
      refine (Rect.mem_set_unit ..).mpr fun a => ?_
      match a with
      | ⟨0, _⟩ => exact ⟨by show o ≤ (y 0).val; omega, by show (y 0).val < o + 1; omega⟩
      | ⟨1, _⟩ => exact ⟨Nat.zero_le _, by show (y 1).val < 0 + 32; omega⟩
      | ⟨2, _⟩ => exact ⟨Nat.zero_le _, by show (y 2).val < 0 + 256; omega⟩
    rcases (by omega : (y 0).val = 2 ∨ (y 0).val = 1 ∨ (y 0).val = 0) with e | e | e
    · exact ⟨_, List.mem_cons_self, key 2 inb_S3x32x256_S1x32x256_2_0_0 e⟩
    · exact ⟨_, List.mem_cons_of_mem _ List.mem_cons_self, key 1 inb_S3x32x256_S1x32x256_1_0_0 e⟩
    · exact ⟨_, List.mem_cons_of_mem _ (List.mem_cons_of_mem _ List.mem_cons_self), key 0 inb_S3x32x256_S1x32x256_0_0_0 e⟩
  refine ⟨fun x => ?_, fun x => ?_, fun x => ?_, trivial⟩
  · idx_vars x
    exact (gain2_at ..).trans (gainParts_emb G 2 _ _ _ _ (by omega)).symm
  · idx_vars x
    exact (gain1_at ..).trans (gainParts_emb G 1 _ _ _ _ (by omega)).symm
  · idx_vars x
    exact (gain0_at ..).trans (gainParts_emb G 0 _ _ _ _ (by omega)).symm

/-- The scales' two stores. -/
theorem scales_read (f) (v42 : FVec Ideal S256x128 .f32) (v53 : FVec Ideal S8x256 .f32) (X : S256x8192.Idx → EReal) (G : S32x256.Idx → EReal)
    (h : ∀ t : Fin 256, k0_pay668 v42 v53 (ix2 0 t) = scaleOf (xrow X t) (grow G)) :
    arg6.view.read (Elt Ideal) (arg6.view.writes (Elt Ideal) f
      [⟨Rect.unit ![1, 0] ![1, 128] inb_S2x128_S1x128_1_0, k0_pay1 (k0_pay668 v42 v53)⟩,
       ⟨Rect.unit ![0, 0] S1x128.size inb_S2x128_S1x128_0_0, k0_pay670 v42 v53⟩]) = scalesV X G := by
  funext y
  refine (read_writes_pieces arg6.view f (scalesV X G) y _ ?_).trans (if_pos ?_)
  rotate_left
  · have h0 : (y 0).val < 2 := (y 0).isLt
    have h1 : (y 1).val < 128 := (y 1).isLt
    have key : ∀ (o : ℕ) (h), (y 0).val = o → y ∈ (Rect.unit (s := S2x128) ![o, 0] ![1, 128] h).set := by
      intro o h e
      refine (Rect.mem_set_unit ..).mpr fun a => ?_
      match a with
      | ⟨0, _⟩ => exact ⟨by show o ≤ (y 0).val; omega, by show (y 0).val < o + 1; omega⟩
      | ⟨1, _⟩ => exact ⟨Nat.zero_le _, by show (y 1).val < 0 + 128; omega⟩
    rcases (by omega : (y 0).val = 1 ∨ (y 0).val = 0) with e | e
    · exact ⟨_, List.mem_cons_self, key 1 inb_S2x128_S1x128_1_0 e⟩
    · exact ⟨_, List.mem_cons_of_mem _ List.mem_cons_self, key 0 inb_S2x128_S1x128_0_0 e⟩
  refine ⟨fun x => ?_, fun x => ?_, trivial⟩
  · idx_vars x
    obtain rfl : x0 = 0 := Subsingleton.elim _ _
    refine (scaleH_at ..).trans ((h _).trans ?_)
    unfold scalesV
    refine congrArg (fun z => scaleOf (xrow X z) (grow G)) (Fin.ext ?_)
    show 128 + x1.val = 128 * (1 + 1 * 0) + (0 + 1 * x1.val)
    omega
  · idx_vars x
    obtain rfl : x0 = 0 := Subsingleton.elim _ _
    refine (scaleL_at ..).trans ((h _).trans ?_)
    unfold scalesV
    refine congrArg (fun z => scaleOf (xrow X z) (grow G)) (Fin.ext ?_)
    show x1.val = 128 * (0 + 1 * 0) + (0 + 1 * x1.val)
    omega

/-- The codes' buffer after the third loop. -/
theorem codes_read (v70 : FVec Ideal S1x256 .f32) (X9 G5 G10 G11) (X : S256x8192.Idx → EReal) (G : S32x256.Idx → EReal)
    (h : codesOf (arg9.view.read (Elt Ideal) X9) v70 = codesV X G) :
    arg5.view.read (Elt Ideal) (arg5.view.writes (Elt Ideal) G5 (pb_k0_t3 (F := Ideal) 𝒱 c bd arg0 harg0 arg1 harg1 arg2 harg2 arg3 harg3 arg4 harg4 arg5 harg5 arg6 harg6 arg7 harg7 arg8 harg8 arg9 harg9 arg10 harg10 arg11 harg11 v70 X9 G5 G10 G11 k0_t3_loop.trips).1) = codesV X G := by
  funext y
  rw [codes_loop 𝒱 c bd arg0 harg0 arg1 harg1 arg2 harg2 arg3 harg3 arg4 harg4 arg5 harg5 arg6 harg6 arg7 harg7 arg8 harg8 arg9 harg9 arg10 harg10 arg11 harg11 v70 X9 G5 G10 G11 _ (by rw [trips3]) y, ← h, if_pos]
  have h1 : (y 1).val < 8192 := (y 1).isLt
  rw [trips3]; omega

/-- The packed codes' buffer after it. -/
theorem pack_read (v70 : FVec Ideal S1x256 .f32) (X9 G5 G10 G11) (X : S256x8192.Idx → EReal) (G : S32x256.Idx → EReal)
    (h : packOf (arg9.view.read (Elt Ideal) X9) v70 = packV X G) :
    arg10.view.read (Elt Ideal) (arg10.view.writes (Elt Ideal) G10 (pb_k0_t3 (F := Ideal) 𝒱 c bd arg0 harg0 arg1 harg1 arg2 harg2 arg3 harg3 arg4 harg4 arg5 harg5 arg6 harg6 arg7 harg7 arg8 harg8 arg9 harg9 arg10 harg10 arg11 harg11 v70 X9 G5 G10 G11 k0_t3_loop.trips).2.1) = packV X G := by
  funext y
  rw [pack_loop 𝒱 c bd arg0 harg0 arg1 harg1 arg2 harg2 arg3 harg3 arg4 harg4 arg5 harg5 arg6 harg6 arg7 harg7 arg8 harg8 arg9 harg9 arg10 harg10 arg11 harg11 v70 X9 G5 G10 G11 _ (by rw [trips3]) y, ← h, if_pos]
  have h1 : (y 0).val < 32 := (y 0).isLt
  rw [trips3]; omega

/-- The product's buffer after the last loop. -/
theorem y_read (v64 : FVec Ideal S1x256 .f32) (G4 X2 X3 X10) (X : S256x8192.Idx → EReal) (G : S32x256.Idx → EReal)
    (h : ∀ t : Fin 256, v64 (ix2 0 t) = scaleOf (xrow X t) (grow G)) (hp : arg10.view.read (Elt Ideal) X10 = packV X G) :
    arg4.view.read (Elt Ideal) (arg4.view.writes (Elt Ideal) G4 (pb_k0_t4 (F := Ideal) 𝒱 c bd arg0 harg0 arg1 harg1 arg2 harg2 arg3 harg3 arg4 harg4 arg5 harg5 arg6 harg6 arg7 harg7 arg8 harg8 arg9 harg9 arg10 harg10 arg11 harg11 v64 X2 X3 X10 k0_t4_loop.trips))
      = yV X G (arg2.view.read (Elt Ideal) X2) (arg3.view.read (Elt Ideal) X3) := by
  funext y
  rw [y_loop 𝒱 c bd arg0 harg0 arg1 harg1 arg2 harg2 arg3 harg3 arg4 harg4 arg5 harg5 arg6 harg6 arg7 harg7 arg8 harg8 arg9 harg9 arg10 harg10 arg11 harg11 v64 G4 X2 X3 X10 _ (by rw [trips4]) y, if_pos, hp]
  · unfold yV yOf
    exact congrArg₂ (· * ·) (congrArg₂ (· * ·) rfl (h _)) rfl
  · have h1 : (y 1).val < 3584 := (y 1).isLt
    rw [trips4]; omega

end Cert.Proof.KernelIdeal

end
-- ==== Proof.KernelIdealEnd.lean ====
/- The three outputs at the end of the run, as functions of the operands. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealState
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)

/-- Reading a memref's whole box reads its view. -/
theorem readAt_box {s : Shape} {e : EltTy} {sp : Space} (v : View sig Kind.tc sp s e) (f : v.ty.Contents (Elt Ideal)) {off : Fin s.rank → ℕ} (inb : ∀ a, off a + s.size a ≤ s.size a) :
    v.readAt (Elt Ideal) (Rect.unit off s.size inb).toLoadRect f = v.read (Elt Ideal) f := by
  funext y
  exact congrArg (v.read (Elt Ideal) f) (funext fun a => Fin.ext (by
    show off a + 1 * (y a).val = (y a).val
    have := inb a; omega))

theorem end_all (V : Vec Ideal S32x256 .f32) (X0 f7 f8 G9) (v30 v37 w30 w37) :
    (∀ t : Fin 256, (k0_pay668 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).1 (st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).1) (ix2 0 t) = scaleOf (xrow (arg0.view.read (Elt Ideal) X0) t) (grow V))
    ∧ codesOf (arg9.view.read (Elt Ideal) (arg9.view.writes (Elt Ideal) G9 ((st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).2 ++ (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2))) (k0_pay669 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).1 (st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).1) = codesV (arg0.view.read (Elt Ideal) X0) V ∧ packOf (arg9.view.read (Elt Ideal) (arg9.view.writes (Elt Ideal) G9 ((st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).2 ++ (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2))) (k0_pay669 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).1 (st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).1) = packV (arg0.view.read (Elt Ideal) X0) V :=
  loops_final 𝒱 c bd arg0 harg0 arg1 harg1 arg2 harg2 arg3 harg3 arg4 harg4 arg5 harg5 arg6 harg6 arg7 harg7 arg8 harg8 arg9 harg9 arg10 harg10 arg11 harg11 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) G9 V v30 v37 w30 w37 (fun p k => signs_read (arg7 := arg7) f7 p k) (fun c' k => gains_read (arg8 := arg8) f8 V (ix3 0 c' k)) (fun c' k => gains_read (arg8 := arg8) f8 V (ix3 1 c' k)) (fun c' k => gains_read (arg8 := arg8) f8 V (ix3 2 c' k))

theorem scales_end (V : Vec Ideal S32x256 .f32) (X0 f7 f8 G9) (v30 v37 w30 w37) (f6) :
    arg6.view.read (Elt Ideal) (arg6.view.writes (Elt Ideal) f6
      [⟨Rect.unit ![1, 0] ![1, 128] inb_S2x128_S1x128_1_0, k0_pay1 (k0_pay668 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).1 (st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).1)⟩,
       ⟨Rect.unit ![0, 0] S1x128.size inb_S2x128_S1x128_0_0, k0_pay670 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).1 (st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).1⟩]) = scalesV (arg0.view.read (Elt Ideal) X0) V :=
  scales_read (arg6 := arg6) f6 _ _ _ _ (end_all 𝒱 c bd arg0 harg0 arg1 harg1 arg2 harg2 arg3 harg3 arg4 harg4 arg5 harg5 arg6 harg6 arg7 harg7 arg8 harg8 arg9 harg9 arg10 harg10 arg11 harg11 V X0 f7 f8 G9 v30 v37 w30 w37).1

theorem codes_end (V : Vec Ideal S32x256 .f32) (X0 f7 f8 G9) (v30 v37 w30 w37) (G5 G10 G11) :
    arg5.view.read (Elt Ideal) (arg5.view.writes (Elt Ideal) G5 (pb_k0_t3 (F := Ideal) 𝒱 c bd arg0 harg0 arg1 harg1 arg2 harg2 arg3 harg3 arg4 harg4 arg5 harg5 arg6 harg6 arg7 harg7 arg8 harg8 arg9 harg9 arg10 harg10 arg11 harg11 (k0_pay669 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).1 (st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).1) (arg9.view.writes (Elt Ideal) G9 ((st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).2 ++ (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2)) G5 G10 G11 k0_t3_loop.trips).1) = codesV (arg0.view.read (Elt Ideal) X0) V :=
  codes_read 𝒱 c bd arg0 harg0 arg1 harg1 arg2 harg2 arg3 harg3 arg4 harg4 arg5 harg5 arg6 harg6 arg7 harg7 arg8 harg8 arg9 harg9 arg10 harg10 arg11 harg11 _ _ _ _ _ _ _ (end_all 𝒱 c bd arg0 harg0 arg1 harg1 arg2 harg2 arg3 harg3 arg4 harg4 arg5 harg5 arg6 harg6 arg7 harg7 arg8 harg8 arg9 harg9 arg10 harg10 arg11 harg11 V X0 f7 f8 G9 v30 v37 w30 w37).2.1

theorem y_end (V : Vec Ideal S32x256 .f32) (X0 f7 f8 G9) (v30 v37 w30 w37) (G4 X2 X3 G5 G10 G11) :
    arg4.view.read (Elt Ideal) (arg4.view.writes (Elt Ideal) G4 (pb_k0_t4 (F := Ideal) 𝒱 c bd arg0 harg0 arg1 harg1 arg2 harg2 arg3 harg3 arg4 harg4 arg5 harg5 arg6 harg6 arg7 harg7 arg8 harg8 arg9 harg9 arg10 harg10 arg11 harg11 (k0_pay668 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).1 (st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).1) X2 X3
      (arg10.view.writes (Elt Ideal) G10 (pb_k0_t3 (F := Ideal) 𝒱 c bd arg0 harg0 arg1 harg1 arg2 harg2 arg3 harg3 arg4 harg4 arg5 harg5 arg6 harg6 arg7 harg7 arg8 harg8 arg9 harg9 arg10 harg10 arg11 harg11 (k0_pay669 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).1 (st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).1) (arg9.view.writes (Elt Ideal) G9 ((st_k0_t2 (F := Ideal) 𝒱 c bd arg0 harg0 arg1 harg1 arg2 harg2 arg3 harg3 arg4 harg4 arg5 harg5 arg6 harg6 arg7 harg7 arg8 harg8 arg9 harg9 arg10 harg10 arg11 harg11 w30 w37 (arg9.view.writes (Elt Ideal) G9 (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2) (k0_pay663 (F := Ideal)) k0_t2_loop.trips).2 ++ (st_k0_t1 (F := Ideal) 𝒱 c bd arg0 harg0 arg1 harg1 arg2 harg2 arg3 harg3 arg4 harg4 arg5 harg5 arg6 harg6 arg7 harg7 arg8 harg8 arg9 harg9 arg10 harg10 arg11 harg11 v30 v37 X0 (arg7.view.writes (Elt Ideal) f7 [⟨Rect.unit ![0, 0] S256x256.size inb_S256x256_S256x256_0_0, k0_pay651 (F := Ideal)⟩]) (arg8.view.writes (Elt Ideal) f8 [⟨Rect.unit ![2, 0, 0] S1x32x256.size inb_S3x32x256_S1x32x256_2_0_0, k0_pay658 (k0_pay655 V)⟩, ⟨Rect.unit ![1, 0, 0] S1x32x256.size inb_S3x32x256_S1x32x256_1_0_0, k0_pay657 V⟩, ⟨Rect.unit ![0, 0, 0] S1x32x256.size inb_S3x32x256_S1x32x256_0_0_0, k0_pay656 V⟩]) (k0_pay659 (F := Ideal)) k0_t1_loop.trips).2)) G5 G10 G11 k0_t3_loop.trips).2.1) k0_t4_loop.trips))
      = yV (arg0.view.read (Elt Ideal) X0) V (arg2.view.read (Elt Ideal) X2) (arg3.view.read (Elt Ideal) X3) :=
  y_read 𝒱 c bd arg0 harg0 arg1 harg1 arg2 harg2 arg3 harg3 arg4 harg4 arg5 harg5 arg6 harg6 arg7 harg7 arg8 harg8 arg9 harg9 arg10 harg10 arg11 harg11 _ _ _ _ _ _ _ (end_all 𝒱 c bd arg0 harg0 arg1 harg1 arg2 harg2 arg3 harg3 arg4 harg4 arg5 harg5 arg6 harg6 arg7 harg7 arg8 harg8 arg9 harg9 arg10 harg10 arg11 harg11 V X0 f7 f8 G9 v30 v37 w30 w37).1
    (pack_read 𝒱 c bd arg0 harg0 arg1 harg1 arg2 harg2 arg3 harg3 arg4 harg4 arg5 harg5 arg6 harg6 arg7 harg7 arg8 harg8 arg9 harg9 arg10 harg10 arg11 harg11 _ _ _ _ _ _ _ (end_all 𝒱 c bd arg0 harg0 arg1 harg1 arg2 harg2 arg3 harg3 arg4 harg4 arg5 harg5 arg6 harg6 arg7 harg7 arg8 harg8 arg9 harg9 arg10 harg10 arg11 harg11 V X0 f7 f8 G9 v30 v37 w30 w37).2.2)

end Cert.Proof.KernelIdeal

end
-- ==== Proof.KernelIdealValueRun.lean ====
/- One run of the whole body on any staging memrefs, its outputs at their values. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealEnd
public import proofs.«01_k».proof.Proof.KernelIdealRun
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

local notation "𝕄" => MT nD τ sig Unit (Elt Ideal) ℕ (UR sig nD τ) ℕ

set_option maxHeartbeats 4000000 in
/-- The body's triple with the outputs at their values. -/
theorem valueRun0_A (c : Dev nD) (arg0 : Memref sig .tc .vmem S256x8192 .bf16) (harg0 : arg0.IsWhole) (arg1 : Memref sig .tc .vmem S32x256 .f32) (harg1 : arg1.IsWhole) (arg2 : Memref sig .tc .vmem S3584x2048 .i8) (harg2 : arg2.IsWhole) (arg3 : Memref sig .tc .smem S1 .f32) (harg3 : arg3.IsWhole) (arg4 : Memref sig .tc .vmem S256x3584 .bf16) (harg4 : arg4.IsWhole) (arg5 : Memref sig .tc .vmem S256x8192 .i8) (harg5 : arg5.IsWhole) (arg6 : Memref sig .tc .vmem S2x128 .f32) (harg6 : arg6.IsWhole) (arg7 : Memref sig .tc .vmem S256x256 .bf16) (harg7 : arg7.IsWhole) (arg8 : Memref sig .tc .vmem S3x32x256 .f32) (harg8 : arg8.IsWhole) (arg9 : Memref sig .tc .vmem S32x256x256 .f32) (harg9 : arg9.IsWhole) (arg10 : Memref sig .tc .vmem S32x256x256 .fp8e4m3) (harg10 : arg10.IsWhole) (arg11 : Memref sig .tc .vmem S2x256x128 .f32) (harg11 : arg11.IsWhole)
    (x0 : Vec Ideal S256x8192 .bf16) (x1 : Vec Ideal S32x256 .f32) (x2 : Vec Ideal S3584x2048 .i8) (x3 : Vec Ideal S1 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (yV x0 x1 x2 x3) ∗ owns (c : Thread nD τ) arg5 fullShare (codesV x0 x1) ∗ owns (c : Thread nD τ) arg6 fullShare (scalesV x0 x1) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_h_bitlinear arg0 harg0 arg1 harg1 arg2 harg2 arg3 harg3 arg4 harg4 arg5 harg5 arg6 harg6 arg7 harg7 arg8 harg8 arg9 harg9 arg10 harg10 arg11 harg11) K := by
    intro E K
    simp only [cc0_h_bitlinear_eq_skeleton]; unfold cc0_h_bitlinear_skel
    simp only [k0_part45_eq_skeleton, k0_part46_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro
      sl_unfold_words
      refine (y_end Variants.none c none arg0 harg0 arg1 harg1 arg2 harg2 arg3 harg3 arg4 harg4 arg5 harg5 arg6 harg6 arg7 harg7 arg8 harg8 arg9 harg9 arg10 harg10 arg11 harg11 _ _ _ _ _ _ _ _ _ _ _ _ _ _ _).trans ?_
      rw [harg0.read_unread, harg2.read_unread, harg3.read_unread, readAt_box, harg1.read_unread]
    isplitl [H5]
    · iexists _; isplitr; swap; · iexact H5
      ipureintro
      sl_unfold_words
      refine (codes_end Variants.none c none arg0 harg0 arg1 harg1 arg2 harg2 arg3 harg3 arg4 harg4 arg5 harg5 arg6 harg6 arg7 harg7 arg8 harg8 arg9 harg9 arg10 harg10 arg11 harg11 _ _ _ _ _ _ _ _ _ _ _ _).trans ?_
      rw [harg0.read_unread, readAt_box, harg1.read_unread]
    isplitl [H6]
    · iexists _; isplitr; swap; · iexact H6
      ipureintro
      sl_unfold_words
      refine (scales_end Variants.none c none arg0 harg0 arg1 harg1 arg2 harg2 arg3 harg3 arg4 harg4 arg5 harg5 arg6 harg6 arg7 harg7 arg8 harg8 arg9 harg9 arg10 harg10 arg11 harg11 _ _ _ _ _ _ _ _ _ _).trans ?_
      rw [harg0.read_unread, readAt_box, harg1.read_unread]
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Proof.KernelIdeal

end
-- ==== Proof.KernelIdealValue.lean ====
/- The kernel's results: the pipeline's proof data with the outputs at their values, the launch, and the arrays it leaves. -/
module

public import Idealize.ShloMosaic.Lib.Claim
public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealQuant
public import proofs.«01_k».proof.Proof.KernelIdealValueRun
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

namespace Value

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The proof data of the one pipeline on core `c`: the arrays as the region finds them (`V`); after the body at
    point `t` each input's buffer at its block and each output's at its value; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yV (iblk m c 0 t) (iblk m c 1 t) (iblk m c 2 t) (iblk m c 3 t)
    | ⟨5, _⟩ => codesV (iblk m c 0 t) (iblk m c 1 t)
    | ⟨6, _⟩ => scalesV (iblk m c 0 t) (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yV (iblk m c 0 t) (iblk m c 1 t) (iblk m c 2 t) (iblk m c 3 t) := by dsimp only [dats]
theorem after0_5 (c : Dev nD) (t : Fin cfg0.N) : (dats m 0 c).after 5 t = codesV (iblk m c 0 t) (iblk m c 1 t) := by dsimp only [dats]
theorem after0_6 (c : Dev nD) (t : Fin cfg0.N) : (dats m 0 c).after 6 t = scalesV (iblk m c 0 t) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((valueRun0_A c _ _ _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: every array of the pipeline ends at what the proof data say. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-! ## The results -/

/-- Every window's block index at the one point (decided). -/
theorem idx : ∀ t : Fin cfg0.N, win0_0.index t = ![0, 0] ∧ win0_1.index t = ![0, 0] ∧ win0_2.index t = ![0, 0] ∧ win0_3.index t = ![0]
    ∧ win0_4.index t = ![0, 0] ∧ win0_5.index t = ![0, 0] ∧ win0_6.index t = ![0, 0] :=
  (by decide +kernel : ∀ t : Fin grid0.N, _)

/-- The tokens as rows, -/
def rowsX (A : S2x128x8192.Idx → EReal) : S256x8192.Idx → EReal := fun y =>
  A (ix3 ⟨(y 0).val / 128, by have h : (y 0).val < 256 := (y 0).isLt
                              omega⟩ ⟨(y 0).val % 128, by omega⟩ (y 1))

/-- and the gain by chunks. -/
def rowsG (A : S8192.Idx → EReal) : S32x256.Idx → EReal := fun y =>
  A (ix1 ⟨256 * (y 0).val + (y 1).val, by
    have h : (y 0).val < 32 := (y 0).isLt
    have h' : (y 1).val < 256 := (y 1).isLt
    omega⟩)

theorem iblk0 (c : Dev nD) : iblk m c 0 t0_0 = rowsX (m ((c : Thread nD τ).loc main_arg0)) := by
  funext y
  idx_vars y
  unfold iblk rowsX
  blk_simp [idx t0_0]
  entry_read
  pointwise
  have e0 : (((View.whole main_v0).slice (win0_0.rect t0_0)).emb (ix2 y0 y1) 0).val = y0.val := by blk_simp [idx t0_0]
  have e1 : (((View.whole main_v0).slice (win0_0.rect t0_0)).emb (ix2 y0 y1) 1).val = y1.val := by blk_simp [idx t0_0]
  refine congrArg (m (c.tc.loc main_arg0)) ?_
  funext a
  match a with
  | ⟨0, _⟩ => exact Fin.ext (congrArg (· / 128) e0)
  | ⟨1, _⟩ => exact Fin.ext (congrArg (· % 128) e0)
  | ⟨2, _⟩ => exact Fin.ext e1

theorem iblk1 (c : Dev nD) : iblk m c 1 t0_0 = rowsG (m ((c : Thread nD τ).loc main_arg1)) := by
  funext y
  idx_vars y
  unfold iblk rowsG
  blk_simp [idx t0_0]
  entry_read
  pointwise
  have e0 : (((View.whole main_v1).slice (win0_1.rect t0_0)).emb (ix2 y0 y1) 0).val = y0.val := by blk_simp [idx t0_0]
  have e1 : (((View.whole main_v1).slice (win0_1.rect t0_0)).emb (ix2 y0 y1) 1).val = y1.val := by blk_simp [idx t0_0]
  refine congrArg (m (c.tc.loc main_arg1)) ?_
  funext a
  match a with
  | ⟨0, _⟩ =>
    refine Fin.ext ?_
    show (((View.whole main_v1).slice (win0_1.rect t0_0)).emb (ix2 y0 y1) 0).val * 256 + (((View.whole main_v1).slice (win0_1.rect t0_0)).emb (ix2 y0 y1) 1).val = 256 * y0.val + y1.val
    rw [e0, e1, Nat.mul_comm]

theorem iblk2 (c : Dev nD) : iblk m c 2 t0_0 = m ((c : Thread nD τ).loc main_arg2) := by
  blk_ext! [iblk, V, idx t0_0]

theorem iblk3 (c : Dev nD) : iblk m c 3 t0_0 = m ((c : Thread nD τ).loc main_arg3) := by
  blk_ext! [iblk, V, idx t0_0]

theorem final4 (c : Dev nD) : (dats m 0 c).arrAt 4 cfg0.N
    = yV (rowsX (m ((c : Thread nD τ).loc main_arg0))) (rowsG (m ((c : Thread nD τ).loc main_arg1))) (m ((c : Thread nD τ).loc main_arg2)) (m ((c : Thread nD τ).loc main_arg3)) := by
  refine (dats m 0 c).arrAt_eq_of_after_last 4 t0_0 (by decide +kernel) _ fun j => ?_
  rw [after0_4, iblk0, iblk1, iblk2, iblk3]
  blk_simp

theorem final5 (c : Dev nD) : (dats m 0 c).arrAt 5 cfg0.N
    = codesV (rowsX (m ((c : Thread nD τ).loc main_arg0))) (rowsG (m ((c : Thread nD τ).loc main_arg1))) := by
  refine (dats m 0 c).arrAt_eq_of_after_last 5 t0_0 (by decide +kernel) _ fun j => ?_
  rw [after0_5, iblk0, iblk1]
  blk_simp

theorem final6 (c : Dev nD) : (dats m 0 c).arrAt 6 cfg0.N
    = scalesV (rowsX (m ((c : Thread nD τ).loc main_arg0))) (rowsG (m ((c : Thread nD τ).loc main_arg1))) := by
  refine (dats m 0 c).arrAt_eq_of_after_last 6 t0_0 (by decide +kernel) _ fun j => ?_
  rw [after0_6, iblk0, iblk1]
  blk_simp

end Value

end Cert.Proof.KernelIdeal

end
-- ==== Proof.ReferenceIdealLevel.lean ====
/- One level of the reference's butterfly: the row is split in blocks of two halves, and the halves' sum and difference are put
   back side by side. -/
module

public import proofs.«01_k».proof.Proof.Gen.ReferenceIdeal
public import proofs.«01_k».proof.Proof.Spec
public import Idealize.ShloMosaic.Lib.Pipeline.Value
public import Idealize.ShloMosaic.Lib.Pipeline.ValueKit

@[expose] public section

noncomputable section

namespace Cert.Proof.ReferenceIdeal

open Idealize.ShloMosaic Idealize.ShloMosaic.TcCoe Idealize.ShloMosaic.Tactic

theorem half_lt {A M a p k : ℕ} (hA : A * 2 * M = 8192) (hp : p < 2) (ha : a < A) (hk : k < M) : (a * 2 + p) * M + k < 8192 := by
  have : (a * 2 + p + 1) * M ≤ A * 2 * M := Nat.mul_le_mul_right _ (by omega)
  rw [Nat.add_mul, Nat.one_mul] at this
  omega

/-- One half of the row, cut out of every block. -/
theorem half {α : Type} {A M : ℕ} (p : ℕ) (hA : A * 2 * M = 8192) (hp : p < 2) (Y : (⟨3, ![2, 128, 8192]⟩ : Shape).Idx → α)
    (h1 : (⟨3, ![2, 128, 8192]⟩ : Shape).ShapeCasts ⟨5, ![2, 128, A, 2, M]⟩)
    (h2 : (⟨5, ![2, 128, A, 2, M]⟩ : Shape).Slices ![0, 0, 0, p, 0] ⟨5, ![2, 128, A, 1, M]⟩)
    (h3 : (⟨5, ![2, 128, A, 1, M]⟩ : Shape).ShapeCasts ⟨4, ![2, 128, A, M]⟩) (b : Fin 2) (s : Fin 128) (a : Fin A) (k : Fin M) :
    shapeCast ⟨4, ![2, 128, A, M]⟩ (extractStridedSlice ⟨5, ![2, 128, A, 1, M]⟩ ![0, 0, 0, p, 0] (shapeCast ⟨5, ![2, 128, A, 2, M]⟩ Y h1) h2) h3 (ix4 b s a k)
      = Y (ix3 b s ⟨(a.val * 2 + p) * M + k.val, half_lt hA hp a.isLt k.isLt⟩) := by
  rw [shapeCast_apply _ h3 (ix4 b s a k) (ix5 b s a 0 k) (by
      rw [Shape.rowMajor_val_five, Shape.rowMajor_val_four]
      show (((b.val * 128 + s.val) * A + a.val) * 1 + 0) * M + k.val = ((b.val * 128 + s.val) * A + a.val) * M + k.val
      rw [Nat.mul_one, Nat.add_zero])]
  rw [extractStridedSlice_apply _ _ h2 (ix5 b s a 0 k) (ix5 b s a ⟨p, hp⟩ k) (fun c => match c with
    | 0 => (Nat.zero_add _).symm
    | 1 => (Nat.zero_add _).symm
    | 2 => (Nat.zero_add _).symm
    | 3 => rfl
    | 4 => (Nat.zero_add _).symm)]
  refine shapeCast_apply _ h1 _ _ ?_
  rw [Shape.rowMajor_val_five, Shape.rowMajor_val_three]
  show (b.val * 128 + s.val) * 8192 + ((a.val * 2 + p) * M + k.val) = ((((b.val * 128 + s.val) * A + a.val) * 2 + p) * M) + k.val
  rw [← hA]
  ring

/-- The two halves side by side, read in the first half of a block or in the second. -/
theorem join {α : Type} {A M : ℕ} (p : ℕ) (hA : A * 2 * M = 8192) (hp : p < 2) (Z W : (⟨4, ![2, 128, A, M]⟩ : Shape).Idx → α)
    (hb hb' : (⟨4, ![2, 128, A, M]⟩ : Shape).BroadcastsInDim ⟨5, ![2, 128, A, 1, M]⟩ ![0, 1, 2, 4])
    (hc : Shape.Concatenates [(⟨5, ![2, 128, A, 1, M]⟩ : Shape), ⟨5, ![2, 128, A, 1, M]⟩] ⟨5, ![2, 128, A, 2, M]⟩ 3)
    (h4 : (⟨5, ![2, 128, A, 2, M]⟩ : Shape).ShapeCasts ⟨3, ![2, 128, 8192]⟩) (b : Fin 2) (s : Fin 128) (a : Fin A) (k : Fin M) :
    shapeCast ⟨3, ![2, 128, 8192]⟩ (concatenate ⟨5, ![2, 128, A, 2, M]⟩ 3
        [⟨⟨5, ![2, 128, A, 1, M]⟩, broadcastInDim ⟨5, ![2, 128, A, 1, M]⟩ ![0, 1, 2, 4] hb Z⟩,
         ⟨⟨5, ![2, 128, A, 1, M]⟩, broadcastInDim ⟨5, ![2, 128, A, 1, M]⟩ ![0, 1, 2, 4] hb' W⟩] hc) h4
        (ix3 b s ⟨(a.val * 2 + p) * M + k.val, half_lt hA hp a.isLt k.isLt⟩)
      = if p = 0 then Z (ix4 b s a k) else W (ix4 b s a k) := by
  have hbr : ∀ (V : (⟨4, ![2, 128, A, M]⟩ : Shape).Idx → α) (h : (⟨4, ![2, 128, A, M]⟩ : Shape).BroadcastsInDim ⟨5, ![2, 128, A, 1, M]⟩ ![0, 1, 2, 4]),
      broadcastInDim ⟨5, ![2, 128, A, 1, M]⟩ ![0, 1, 2, 4] h V (ix5 b s a 0 k) = V (ix4 b s a k) := by
    intro V h
    refine congrArg V (funext fun c => Fin.ext ?_)
    split
    · rename_i h0
      match c, h0 with
      | 2, h0 => have h0 : A = 1 := h0; have := a.isLt; show 0 = a.val; omega
      | 3, h0 => have h0 : M = 1 := h0; have := k.isLt; show 0 = k.val; omega
    · match c with
      | 0 => rfl
      | 1 => rfl
      | 2 => rfl
      | 3 => rfl
  rw [shapeCast_apply _ h4 _ (ix5 b s a ⟨p, hp⟩ k) (by
      rw [Shape.rowMajor_val_five, Shape.rowMajor_val_three]
      show ((((b.val * 128 + s.val) * A + a.val) * 2 + p) * M) + k.val = (b.val * 128 + s.val) * 8192 + ((a.val * 2 + p) * M + k.val)
      rw [← hA]
      ring)]
  obtain rfl | rfl : p = 0 ∨ p = 1 := by omega
  · rw [if_pos rfl, ← hbr Z hb]
    exact concatenate_pair_apply_left 3 _ _ hc _ rfl (ix5 b s a 0 k) (fun c => match c with
      | 0 => rfl
      | 1 => rfl
      | 2 => rfl
      | 3 => rfl
      | 4 => rfl)
  · rw [if_neg one_ne_zero, ← hbr W hb']
    exact concatenate_pair_apply_right 3 _ _ hc _ rfl rfl (ix5 b s a 0 k) (fun c => match c with
      | 0 => fun _ => rfl
      | 1 => fun _ => rfl
      | 2 => fun _ => rfl
      | 3 => fun h => absurd rfl h
      | 4 => fun _ => rfl) rfl

/-- A token's row of an array, 0 past its end. -/
def row (Y : (⟨3, ![2, 128, 8192]⟩ : Shape).Idx → EReal) (b : Fin 2) (s : Fin 128) (j : ℕ) : EReal :=
  if h : j < 8192 then Y (ix3 b s ⟨j, h⟩) else 0

theorem row_lt (Y : (⟨3, ![2, 128, 8192]⟩ : Shape).Idx → EReal) (b : Fin 2) (s : Fin 128) (i : Fin 8192) : row Y b s i.val = Y (ix3 b s i) :=
  dif_pos i.isLt

/-- A level of the program is a level of the butterfly. -/
theorem level {A M : ℕ} (hA : A * 2 * M = 8192) (Y : FVec Ideal (⟨3, ![2, 128, 8192]⟩ : Shape) .f32)
    (h1 : (⟨3, ![2, 128, 8192]⟩ : Shape).ShapeCasts ⟨5, ![2, 128, A, 2, M]⟩)
    (h20 : (⟨5, ![2, 128, A, 2, M]⟩ : Shape).Slices ![0, 0, 0, 0, 0] ⟨5, ![2, 128, A, 1, M]⟩)
    (h21 : (⟨5, ![2, 128, A, 2, M]⟩ : Shape).Slices ![0, 0, 0, 1, 0] ⟨5, ![2, 128, A, 1, M]⟩)
    (h3 : (⟨5, ![2, 128, A, 1, M]⟩ : Shape).ShapeCasts ⟨4, ![2, 128, A, M]⟩)
    (hb : (⟨4, ![2, 128, A, M]⟩ : Shape).BroadcastsInDim ⟨5, ![2, 128, A, 1, M]⟩ ![0, 1, 2, 4])
    (hc : Shape.Concatenates [(⟨5, ![2, 128, A, 1, M]⟩ : Shape), ⟨5, ![2, 128, A, 1, M]⟩] ⟨5, ![2, 128, A, 2, M]⟩ 3)
    (h4 : (⟨5, ![2, 128, A, 2, M]⟩ : Shape).ShapeCasts ⟨3, ![2, 128, 8192]⟩) (b : Fin 2) (s : Fin 128) (i : Fin 8192)
    (P Q : FVec Ideal (⟨4, ![2, 128, A, M]⟩ : Shape) .f32)
    (hP : P = shapeCast ⟨4, ![2, 128, A, M]⟩ (extractStridedSlice ⟨5, ![2, 128, A, 1, M]⟩ ![0, 0, 0, 0, 0] (shapeCast ⟨5, ![2, 128, A, 2, M]⟩ Y h1) h20) h3)
    (hQ : Q = shapeCast ⟨4, ![2, 128, A, M]⟩ (extractStridedSlice ⟨5, ![2, 128, A, 1, M]⟩ ![0, 0, 0, 1, 0] (shapeCast ⟨5, ![2, 128, A, 2, M]⟩ Y h1) h21) h3) :
    (shapeCast ⟨3, ![2, 128, 8192]⟩ (concatenate ⟨5, ![2, 128, A, 2, M]⟩ 3
        [⟨⟨5, ![2, 128, A, 1, M]⟩, broadcastInDim ⟨5, ![2, 128, A, 1, M]⟩ ![0, 1, 2, 4] hb (addf P Q)⟩,
         ⟨⟨5, ![2, 128, A, 1, M]⟩, broadcastInDim ⟨5, ![2, 128, A, 1, M]⟩ ![0, 1, 2, 4] hb (subf P Q)⟩] hc) h4 : FVec Ideal (⟨3, ![2, 128, 8192]⟩ : Shape) .f32)
        (ix3 b s i)
      = lev M (row Y b s) i.val := by
  have hM : 0 < M := Nat.pos_of_ne_zero fun h => by rw [h] at hA; omega
  have hi : i.val / M < A * 2 := by
    rw [Nat.div_lt_iff_lt_mul hM, hA]; exact i.isLt
  have key : ∀ p (hp : p < 2) (a : Fin A) (k : Fin M), i.val = (a.val * 2 + p) * M + k.val → p = i.val / M % 2 → _ := fun p hp a k h h' =>
    (congrArg _ (congrArg (ix3 b s) (Fin.ext h))).trans (join p hA hp (addf P Q) (subf P Q) hb hb hc h4 b s a k)
  have hdm : i.val = (i.val / M / 2 * 2 + i.val / M % 2) * M + i.val % M := by
    rw [Nat.div_add_mod', Nat.div_add_mod']
  refine (key (i.val / M % 2) (Nat.mod_lt _ (by omega)) ⟨i.val / M / 2, by omega⟩ ⟨i.val % M, Nat.mod_lt _ hM⟩ hdm rfl).trans ?_
  have hPv : P (ix4 b s ⟨i.val / M / 2, by omega⟩ ⟨i.val % M, Nat.mod_lt _ hM⟩) = row Y b s ((i.val / M / 2 * 2 + 0) * M + i.val % M) := by
    rw [hP, half 0 hA (by omega)]; exact (row_lt Y b s _).symm
  have hQv : Q (ix4 b s ⟨i.val / M / 2, by omega⟩ ⟨i.val % M, Nat.mod_lt _ hM⟩) = row Y b s ((i.val / M / 2 * 2 + 1) * M + i.val % M) := by
    rw [hQ, half 1 hA (by omega)]; exact (row_lt Y b s _).symm
  unfold lev
  by_cases h : i.val / M % 2 = 0
  · rw [if_pos h, if_pos h]
    show P _ + Q _ = _
    rw [hPv, hQv]
    rw [h] at hdm
    rw [← hdm]
    congr 2
    rw [Nat.add_mul] at hdm ⊢
    generalize i.val / M / 2 * 2 * M = u at hdm ⊢
    omega
  · rw [if_neg h, if_neg h]
    show P _ - Q _ = _
    rw [hPv, hQv]
    rw [show i.val / M % 2 = 1 by omega] at hdm
    rw [← hdm]
    congr 2
    rw [Nat.add_mul] at hdm ⊢
    generalize i.val / M / 2 * 2 * M = u at hdm ⊢
    omega

end Cert.Proof.ReferenceIdeal

end
-- ==== Proof.ReferenceIdealLevels.lean ====
/- The reference's thirteen levels are the butterfly over a row. -/
module

public import proofs.«01_k».proof.Proof.Gen.ReferenceIdeal.Read
public import proofs.«01_k».proof.Proof.ReferenceIdealLevel

@[expose] public section

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic

variable (x0 : (⟨S2x128x8192, .bf16⟩ : BufTy).Contents (Elt Ideal)) (x1 : (⟨S8192, .f32⟩ : BufTy).Contents (Elt Ideal))

/-- A level within the row reads within the row. -/
theorem lev_congr {B : ℕ} (hB : B < 13) {v w : ℕ → EReal} (h : ∀ j < 8192, v j = w j) : ∀ j < 8192, lev (2 ^ B) v j = lev (2 ^ B) w j := by
  intro j hj
  unfold lev
  split
  · rename_i h0
    rw [h j hj, h (j + 2 ^ B) ?_]
    have hp : 2 ^ B * (2 * 2 ^ (12 - B)) = 8192 := by
      rw [show 2 ^ B * (2 * 2 ^ (12 - B)) = 2 ^ (B + (12 - B)) * 2 by rw [pow_add]; ring, show B + (12 - B) = 12 by omega]; norm_num
    have hq : j / 2 ^ B < 2 * 2 ^ (12 - B) := by
      rw [Nat.div_lt_iff_lt_mul (by positivity), Nat.mul_comm, hp]; exact hj
    have hq2 : j / 2 ^ B + 1 < 2 * 2 ^ (12 - B) := by omega
    have : (j + 2 ^ B) / 2 ^ B < 2 * 2 ^ (12 - B) := by
      rw [Nat.add_div_right _ (by positivity)]; exact hq2
    rw [Nat.div_lt_iff_lt_mul (by positivity), Nat.mul_comm, hp] at this
    exact this
  · rw [h j hj, h (j - 2 ^ B) ((Nat.sub_le _ _).trans_lt hj)]

theorem level0 (b : Fin 2) (s : Fin 128) (j : ℕ) (hj : j < 8192) :
    row (val_main_v24 (F := Ideal) x0 x1) b s j = lev (2 ^ 12) (row (val_main_v13 (F := Ideal) x0 x1) b s) j := by
  refine (row_lt _ b s ⟨j, hj⟩).trans ?_
  unfold val_main_v24 val_main_v23 val_main_v22 val_main_v21 val_main_v20 val_main_v19
  exact level (A := 1) (M := 4096) rfl (val_main_v13 (F := Ideal) x0 x1) _ _ _ _ _ _ _ b s ⟨j, hj⟩ (val_main_v16 (F := Ideal) x0 x1) (val_main_v18 (F := Ideal) x0 x1) rfl rfl

theorem level1 (b : Fin 2) (s : Fin 128) (j : ℕ) (hj : j < 8192) :
    row (val_main_v35 (F := Ideal) x0 x1) b s j = lev (2 ^ 11) (row (val_main_v24 (F := Ideal) x0 x1) b s) j := by
  refine (row_lt _ b s ⟨j, hj⟩).trans ?_
  unfold val_main_v35 val_main_v34 val_main_v33 val_main_v32 val_main_v31 val_main_v30
  exact level (A := 2) (M := 2048) rfl (val_main_v24 (F := Ideal) x0 x1) _ _ _ _ _ _ _ b s ⟨j, hj⟩ (val_main_v27 (F := Ideal) x0 x1) (val_main_v29 (F := Ideal) x0 x1) rfl rfl

theorem level2 (b : Fin 2) (s : Fin 128) (j : ℕ) (hj : j < 8192) :
    row (val_main_v46 (F := Ideal) x0 x1) b s j = lev (2 ^ 10) (row (val_main_v35 (F := Ideal) x0 x1) b s) j := by
  refine (row_lt _ b s ⟨j, hj⟩).trans ?_
  unfold val_main_v46 val_main_v45 val_main_v44 val_main_v43 val_main_v42 val_main_v41
  exact level (A := 4) (M := 1024) rfl (val_main_v35 (F := Ideal) x0 x1) _ _ _ _ _ _ _ b s ⟨j, hj⟩ (val_main_v38 (F := Ideal) x0 x1) (val_main_v40 (F := Ideal) x0 x1) rfl rfl

theorem level3 (b : Fin 2) (s : Fin 128) (j : ℕ) (hj : j < 8192) :
    row (val_main_v57 (F := Ideal) x0 x1) b s j = lev (2 ^ 9) (row (val_main_v46 (F := Ideal) x0 x1) b s) j := by
  refine (row_lt _ b s ⟨j, hj⟩).trans ?_
  unfold val_main_v57 val_main_v56 val_main_v55 val_main_v54 val_main_v53 val_main_v52
  exact level (A := 8) (M := 512) rfl (val_main_v46 (F := Ideal) x0 x1) _ _ _ _ _ _ _ b s ⟨j, hj⟩ (val_main_v49 (F := Ideal) x0 x1) (val_main_v51 (F := Ideal) x0 x1) rfl rfl

theorem level4 (b : Fin 2) (s : Fin 128) (j : ℕ) (hj : j < 8192) :
    row (val_main_v68 (F := Ideal) x0 x1) b s j = lev (2 ^ 8) (row (val_main_v57 (F := Ideal) x0 x1) b s) j := by
  refine (row_lt _ b s ⟨j, hj⟩).trans ?_
  unfold val_main_v68 val_main_v67 val_main_v66 val_main_v65 val_main_v64 val_main_v63
  exact level (A := 16) (M := 256) rfl (val_main_v57 (F := Ideal) x0 x1) _ _ _ _ _ _ _ b s ⟨j, hj⟩ (val_main_v60 (F := Ideal) x0 x1) (val_main_v62 (F := Ideal) x0 x1) rfl rfl

theorem level5 (b : Fin 2) (s : Fin 128) (j : ℕ) (hj : j < 8192) :
    row (val_main_v79 (F := Ideal) x0 x1) b s j = lev (2 ^ 7) (row (val_main_v68 (F := Ideal) x0 x1) b s) j := by
  refine (row_lt _ b s ⟨j, hj⟩).trans ?_
  unfold val_main_v79 val_main_v78 val_main_v77 val_main_v76 val_main_v75 val_main_v74
  exact level (A := 32) (M := 128) rfl (val_main_v68 (F := Ideal) x0 x1) _ _ _ _ _ _ _ b s ⟨j, hj⟩ (val_main_v71 (F := Ideal) x0 x1) (val_main_v73 (F := Ideal) x0 x1) rfl rfl

theorem level6 (b : Fin 2) (s : Fin 128) (j : ℕ) (hj : j < 8192) :
    row (val_main_v90 (F := Ideal) x0 x1) b s j = lev (2 ^ 6) (row (val_main_v79 (F := Ideal) x0 x1) b s) j := by
  refine (row_lt _ b s ⟨j, hj⟩).trans ?_
  unfold val_main_v90 val_main_v89 val_main_v88 val_main_v87 val_main_v86 val_main_v85
  exact level (A := 64) (M := 64) rfl (val_main_v79 (F := Ideal) x0 x1) _ _ _ _ _ _ _ b s ⟨j, hj⟩ (val_main_v82 (F := Ideal) x0 x1) (val_main_v84 (F := Ideal) x0 x1) rfl rfl

theorem level7 (b : Fin 2) (s : Fin 128) (j : ℕ) (hj : j < 8192) :
    row (val_main_v101 (F := Ideal) x0 x1) b s j = lev (2 ^ 5) (row (val_main_v90 (F := Ideal) x0 x1) b s) j := by
  refine (row_lt _ b s ⟨j, hj⟩).trans ?_
  unfold val_main_v101 val_main_v100 val_main_v99 val_main_v98 val_main_v97 val_main_v96
  exact level (A := 128) (M := 32) rfl (val_main_v90 (F := Ideal) x0 x1) _ _ _ _ _ _ _ b s ⟨j, hj⟩ (val_main_v93 (F := Ideal) x0 x1) (val_main_v95 (F := Ideal) x0 x1) rfl rfl

theorem level8 (b : Fin 2) (s : Fin 128) (j : ℕ) (hj : j < 8192) :
    row (val_main_v112 (F := Ideal) x0 x1) b s j = lev (2 ^ 4) (row (val_main_v101 (F := Ideal) x0 x1) b s) j := by
  refine (row_lt _ b s ⟨j, hj⟩).trans ?_
  unfold val_main_v112 val_main_v111 val_main_v110 val_main_v109 val_main_v108 val_main_v107
  exact level (A := 256) (M := 16) rfl (val_main_v101 (F := Ideal) x0 x1) _ _ _ _ _ _ _ b s ⟨j, hj⟩ (val_main_v104 (F := Ideal) x0 x1) (val_main_v106 (F := Ideal) x0 x1) rfl rfl

theorem level9 (b : Fin 2) (s : Fin 128) (j : ℕ) (hj : j < 8192) :
    row (val_main_v123 (F := Ideal) x0 x1) b s j = lev (2 ^ 3) (row (val_main_v112 (F := Ideal) x0 x1) b s) j := by
  refine (row_lt _ b s ⟨j, hj⟩).trans ?_
  unfold val_main_v123 val_main_v122 val_main_v121 val_main_v120 val_main_v119 val_main_v118
  exact level (A := 512) (M := 8) rfl (val_main_v112 (F := Ideal) x0 x1) _ _ _ _ _ _ _ b s ⟨j, hj⟩ (val_main_v115 (F := Ideal) x0 x1) (val_main_v117 (F := Ideal) x0 x1) rfl rfl

theorem level10 (b : Fin 2) (s : Fin 128) (j : ℕ) (hj : j < 8192) :
    row (val_main_v134 (F := Ideal) x0 x1) b s j = lev (2 ^ 2) (row (val_main_v123 (F := Ideal) x0 x1) b s) j := by
  refine (row_lt _ b s ⟨j, hj⟩).trans ?_
  unfold val_main_v134 val_main_v133 val_main_v132 val_main_v131 val_main_v130 val_main_v129
  exact level (A := 1024) (M := 4) rfl (val_main_v123 (F := Ideal) x0 x1) _ _ _ _ _ _ _ b s ⟨j, hj⟩ (val_main_v126 (F := Ideal) x0 x1) (val_main_v128 (F := Ideal) x0 x1) rfl rfl

theorem level11 (b : Fin 2) (s : Fin 128) (j : ℕ) (hj : j < 8192) :
    row (val_main_v145 (F := Ideal) x0 x1) b s j = lev (2 ^ 1) (row (val_main_v134 (F := Ideal) x0 x1) b s) j := by
  refine (row_lt _ b s ⟨j, hj⟩).trans ?_
  unfold val_main_v145 val_main_v144 val_main_v143 val_main_v142 val_main_v141 val_main_v140
  exact level (A := 2048) (M := 2) rfl (val_main_v134 (F := Ideal) x0 x1) _ _ _ _ _ _ _ b s ⟨j, hj⟩ (val_main_v137 (F := Ideal) x0 x1) (val_main_v139 (F := Ideal) x0 x1) rfl rfl

theorem level12 (b : Fin 2) (s : Fin 128) (j : ℕ) (hj : j < 8192) :
    row (val_main_v156 (F := Ideal) x0 x1) b s j = lev (2 ^ 0) (row (val_main_v145 (F := Ideal) x0 x1) b s) j := by
  refine (row_lt _ b s ⟨j, hj⟩).trans ?_
  unfold val_main_v156 val_main_v155 val_main_v154 val_main_v153 val_main_v152 val_main_v151
  exact level (A := 4096) (M := 1) rfl (val_main_v145 (F := Ideal) x0 x1) _ _ _ _ _ _ _ b s ⟨j, hj⟩ (val_main_v148 (F := Ideal) x0 x1) (val_main_v150 (F := Ideal) x0 x1) rfl rfl

/-- All thirteen. -/
theorem levels (b : Fin 2) (s : Fin 128) (j : ℕ) (hj : j < 8192) :
    row (val_main_v156 (F := Ideal) x0 x1) b s j = levs 13 (row (val_main_v13 (F := Ideal) x0 x1) b s) j := by
  have h0 := level0 x0 x1 b s
  have h1 := fun j hj => (level1 x0 x1 b s j hj).trans (lev_congr (B := 11) (by omega) h0 j hj)
  have h2 := fun j hj => (level2 x0 x1 b s j hj).trans (lev_congr (B := 10) (by omega) h1 j hj)
  have h3 := fun j hj => (level3 x0 x1 b s j hj).trans (lev_congr (B := 9) (by omega) h2 j hj)
  have h4 := fun j hj => (level4 x0 x1 b s j hj).trans (lev_congr (B := 8) (by omega) h3 j hj)
  have h5 := fun j hj => (level5 x0 x1 b s j hj).trans (lev_congr (B := 7) (by omega) h4 j hj)
  have h6 := fun j hj => (level6 x0 x1 b s j hj).trans (lev_congr (B := 6) (by omega) h5 j hj)
  have h7 := fun j hj => (level7 x0 x1 b s j hj).trans (lev_congr (B := 5) (by omega) h6 j hj)
  have h8 := fun j hj => (level8 x0 x1 b s j hj).trans (lev_congr (B := 4) (by omega) h7 j hj)
  have h9 := fun j hj => (level9 x0 x1 b s j hj).trans (lev_congr (B := 3) (by omega) h8 j hj)
  have h10 := fun j hj => (level10 x0 x1 b s j hj).trans (lev_congr (B := 2) (by omega) h9 j hj)
  have h11 := fun j hj => (level11 x0 x1 b s j hj).trans (lev_congr (B := 1) (by omega) h10 j hj)
  have h12 := fun j hj => (level12 x0 x1 b s j hj).trans (lev_congr (B := 0) (by omega) h11 j hj)
  exact h12 j hj

end Cert.Proof.ReferenceIdeal

end
-- ==== Proof.ReferenceIdealScale.lean ====
/- The reference's transformed row and its scale, in the terms of one token. -/
module

public import proofs.«01_k».proof.Proof.ReferenceIdealLevels

@[expose] public section

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic

variable (x0 : (⟨S2x128x8192, .bf16⟩ : BufTy).Contents (Elt Ideal)) (x1 : (⟨S8192, .f32⟩ : BufTy).Contents (Elt Ideal))

/-- The gains as a row, 0 past its end. -/
def gains (G : (⟨1, ![8192]⟩ : Shape).Idx → EReal) (j : ℕ) : EReal := if h : j < 8192 then G (ix1 ⟨j, h⟩) else 0

theorem idx3 (b : Fin 2) (s : Fin 128) (i : Fin 8192) : idx_main_v3 (idx_main_v9 (ix3 b s i)) = ix2 b s :=
  funext fun a => match a with | 0 => rfl | 1 => rfl

theorem idx2 (b : Fin 2) (s : Fin 128) (i : Fin 8192) : idx_main_v2 (ix2 b s) i = ix3 b s i :=
  funext fun a => match a with | 0 => rfl | 1 => rfl | 2 => rfl

theorem idx11 (b : Fin 2) (s : Fin 128) (i : Fin 8192) : idx_main_v11 (idx_main_v12 (ix3 b s i)) = ix1 i :=
  funext fun a => match a with | 0 => rfl

/-- The mean of the squares. -/
theorem squares (b : Fin 2) (s : Fin 128) :
    val_main_v2 (F := Ideal) x0 (ix2 b s) = ∑ j ∈ Finset.range 8192, row x0 b s j * row x0 b s j := by
  rw [val_main_v2_apply, ← Fin.sum_univ_eq_sum_range (fun j => row x0 b s j * row x0 b s j)]
  rw [show (val_main_cst (F := Ideal)) (Shape.Idx.first h_S_) = 0 from Ideal.ofBits_zero_f32, zero_add]
  refine Finset.sum_congr rfl fun k _ => ?_
  rw [idx2, row_lt]
  rfl

theorem norm (b : Fin 2) (s : Fin 128) (i : Fin 8192) :
    val_main_v8 (F := Ideal) x0 (idx_main_v9 (ix3 b s i)) = rmsOf (row x0 b s) := by
  rw [val_main_v8_apply, val_main_v7_apply, val_main_v5_apply, val_main_v3_apply, idx3, squares, val_main_v4_apply, val_main_v6_apply,
    val_main_cst_0_apply, val_main_cst_1_apply]
  show Ideal.rsqrt (Ideal.div _ (Ideal.ofBits .f32 0x46000000#32) + _) = _
  unfold rmsOf
  rw [lit_8192]
  unfold Ideal.div
  rw [if_neg (by norm_num), ← EReal.coe_inv, one_div]
  rfl

/-- The normed row. -/
theorem normed (b : Fin 2) (s : Fin 128) :
    row (val_main_v13 (F := Ideal) x0 x1) b s
      = fun j => if j < 8192 then row x0 b s j * rmsOf (row x0 b s) * gains x1 j else 0 := by
  funext j
  by_cases hj : j < 8192
  · rw [if_pos hj]
    refine (row_lt _ b s ⟨j, hj⟩).trans ?_
    rw [val_main_v13_apply, val_main_v10_apply, val_main_v9_apply, norm, val_main_v12_apply, val_main_v11_apply, idx11]
    rw [row, gains, dif_pos hj, dif_pos hj]
    rfl
  · rw [if_neg hj, row, dif_neg hj]

/-- The transformed row. -/
theorem transformed (b : Fin 2) (s : Fin 128) (i : Fin 8192) :
    val_main_v158 (F := Ideal) x0 x1 (ix3 b s i) = hOf (row x0 b s) (gains x1) i.val := by
  rw [val_main_v158_apply, val_main_v157_apply, val_main_cst_2_apply, ← row_lt (val_main_v156 (F := Ideal) x0 x1), levels x0 x1 b s i.val i.isLt, normed]
  rfl

theorem amp (b : Fin 2) (s : Fin 128) : val_main_v160 (F := Ideal) x0 x1 (ix2 b s) = ampOf (row x0 b s) (gains x1) := by
  unfold val_main_v160
  have h := Host.reduce_eq_fold_single (α := Ideal .f32) (FloatOps.maximumf (F := Ideal) (φ := .f32)) (val_main_v159 (F := Ideal) x0 x1) (val_main_cst_3 (F := Ideal))
    reducesTo_S2x128x8192_S2x128_d2 (by decide) h_S_ (ix2 b s)
  refine h.trans ?_
  unfold ampOf
  rw [show (val_main_cst_3 (F := Ideal)) (Shape.Idx.first h_S_) = (⊥ : EReal) from lit_neg_inf]
  refine Finset.fold_congr fun k _ => ?_
  have hk : val_main_v158 (F := Ideal) x0 x1 ((show S2x128x8192.Reduces [2] S2x128 by decide).lift (ix2 b s) k) = hOf (row x0 b s) (gains x1) k.val := by
    refine Eq.trans (congrArg (val_main_v158 (F := Ideal) x0 x1) (a₂ := ix3 b s k) ?_) (transformed x0 x1 b s k)
    exact funext fun a => Fin.ext (by match a with | 0 => rfl | 1 => rfl | 2 => rfl)
  exact congrArg (FloatOps.hostAbsf (F := Ideal) (φ := .f32)) hk

/-- A choice on equality with 0. -/
theorem pick_zero (z : EReal) :
    Scalar.select (FloatOps.cmpf (F := Ideal) (φ := .f32) .oeq z (0 : EReal)) (1 : EReal) (FloatOps.hostDivf (F := Ideal) (φ := .f32) z (7 : EReal))
      = if z = 0 then 1 else Ideal.div z 7 := by
  by_cases h : z = 0
  · subst h
    rw [if_pos rfl]
    have : FloatOps.cmpf (F := Ideal) (φ := .f32) .oeq (0 : EReal) (0 : EReal) = 1#1 := by
      show BitVec.ofBool (decide ((0 : EReal) = 0)) = _
      rw [decide_eq_true rfl]; rfl
    rw [this]; rfl
  · rw [if_neg h]
    have : FloatOps.cmpf (F := Ideal) (φ := .f32) .oeq z (0 : EReal) = 0#1 := by
      show BitVec.ofBool (decide (z = 0)) = _
      rw [decide_eq_false h]; rfl
    rw [this]; rfl

/-- A token's scale. -/
theorem scale (b : Fin 2) (s : Fin 128) : val_main_v165 (F := Ideal) x0 x1 (ix2 b s) = scaleOf (row x0 b s) (gains x1) := by
  rw [val_main_v165_apply, val_main_v162_apply, val_main_v164_apply, val_main_v161_apply, val_main_v163_apply, amp, val_main_call0_v1_apply,
    val_main_call0_v0_apply, val_main_cst_4_apply, val_main_cst_5_apply, val_main_cst_6_apply]
  have e0 : (FloatOps.ofBits .f32 0x00000000#32 : Ideal .f32) = (0 : EReal) := Ideal.ofBits_zero_f32
  have e1 : (FloatOps.ofBits .f32 0x3F800000#32 : Ideal .f32) = (1 : EReal) := Ideal.ofBits_one_f32
  have e7 : (FloatOps.ofBits .f32 0x40E00000#32 : Ideal .f32) = (7 : EReal) := lit_seven
  rw [e0, e1, e7]
  unfold scaleOf
  generalize ampOf (row x0 b s) (gains x1) = z
  exact pick_zero z

end Cert.Proof.ReferenceIdeal

end
-- ==== Proof.CodeMath.lean ====
/- A code is a whole number from -7 to 7, whatever the row holds. -/
module

public import proofs.«01_k».proof.Proof.Spec

@[expose] public section

noncomputable section

namespace Cert.Proof

open Idealize.ShloMosaic

theorem clip_int (z : EReal) : ∃ n : ℤ, -7 ≤ n ∧ n ≤ 7 ∧ min 7 (max (-7) (Ideal.liftRound Ideal.roundHalfEven z)) = ((n : ℝ) : EReal) := by
  have h7 : (7 : EReal) = ((7 : ℝ) : EReal) := rfl
  induction z using EReal.rec with
  | bot =>
    refine ⟨-7, le_refl _, by norm_num, ?_⟩
    show min 7 (max (-7) ⊥) = _
    rw [max_eq_left bot_le, h7, show -((7:ℝ):EReal) = ((-7:ℝ):EReal) from rfl, ← EReal.coe_strictMono.monotone.map_min]
    norm_num
  | top =>
    refine ⟨7, by norm_num, le_refl _, ?_⟩
    show min 7 (max (-7) ⊤) = _
    rw [max_eq_right le_top, min_eq_left le_top, h7]
    norm_num
  | coe r =>
    refine ⟨min 7 (max (-7) (Ideal.roundHalfEven r)), le_min (by norm_num) (le_max_left _ _), min_le_left _ _, ?_⟩
    show min 7 (max (-7) (((Ideal.roundHalfEven r : ℤ) : ℝ) : EReal)) = _
    rw [h7, show -((7:ℝ):EReal) = ((-7:ℝ):EReal) from rfl, ← EReal.coe_strictMono.monotone.map_max, ← EReal.coe_strictMono.monotone.map_min]
    norm_num

theorem code_int (x g : ℕ → EReal) (i : ℕ) : ∃ n : ℤ, -7 ≤ n ∧ n ≤ 7 ∧ codeOf x g i = ((n : ℝ) : EReal) := clip_int _

/-- A small whole number as a word of at least four bits. -/
theorem fptosi_int (w : ℕ) (hw : w = 8 ∨ w = 32) (n : ℤ) (h1 : -7 ≤ n) (h2 : n ≤ 7) : Ideal.fptosi w ((n : ℝ) : EReal) = BitVec.ofInt w n := by
  unfold Ideal.fptosi
  refine congrArg (BitVec.ofInt w) ?_
  show max _ (min _ (if (0 : ℝ) ≤ n then ⌊(n : ℝ)⌋ else ⌈(n : ℝ)⌉)) = n
  rw [Int.floor_intCast, Int.ceil_intCast, ite_self]
  rcases hw with rfl | rfl <;> norm_num <;> omega

/-- The code through a 32-bit word is the code. -/
theorem code_word (x g : ℕ → EReal) (i : ℕ) : (Ideal.fptosi 32 (codeOf x g i)).setWidth 8 = Ideal.fptosi 8 (codeOf x g i) := by
  obtain ⟨n, h1, h2, h⟩ := code_int x g i
  rw [h, fptosi_int 32 (Or.inr rfl) n h1 h2, fptosi_int 8 (Or.inl rfl) n h1 h2]
  interval_cases n <;> rfl

/-- And read back as a number it is the code. -/
theorem code_back (x g : ℕ → EReal) (i : ℕ) : (((Ideal.fptosi 32 (codeOf x g i)).toInt : ℝ) : EReal) = codeOf x g i := by
  obtain ⟨n, h1, h2, h⟩ := code_int x g i
  rw [h, fptosi_int 32 (Or.inr rfl) n h1 h2]
  have : (BitVec.ofInt 32 n).toInt = n := by interval_cases n <;> rfl
  rw [this]

end Cert.Proof

end
-- ==== Proof.ReferenceIdealCodes.lean ====
/- The reference's codes, in the terms of one token. -/
module

public import proofs.«01_k».proof.Proof.ReferenceIdealScale
public import proofs.«01_k».proof.Proof.CodeMath

@[expose] public section

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic

variable (x0 : (⟨S2x128x8192, .bf16⟩ : BufTy).Contents (Elt Ideal)) (x1 : (⟨S8192, .f32⟩ : BufTy).Contents (Elt Ideal))

theorem idx166 (b : Fin 2) (s : Fin 128) (i : Fin 8192) : idx_main_v166 (idx_main_v167 (ix3 b s i)) = ix2 b s :=
  funext fun a => match a with | 0 => rfl | 1 => rfl

theorem clipped (b : Fin 2) (s : Fin 128) (i : Fin 8192) :
    val_main_v170 (F := Ideal) x0 x1 (ix3 b s i) = codeOf (row x0 b s) (gains x1) i.val := by
  rw [val_main_v170_apply, val_main_call2_v4_apply, val_main_call2_v3_apply, val_main_cst_8_apply, val_main_call2_v2_apply,
    val_main_call2_v1_apply, val_main_call2_v0_apply, val_main_cst_7_apply, val_main_v169_apply, val_main_v168_apply, transformed,
    val_main_v167_apply, val_main_v166_apply, idx166, scale]
  have e7 : (FloatOps.ofBits .f32 0x40E00000#32 : Ideal .f32) = (7 : EReal) := lit_seven
  have em7 : (FloatOps.ofBits .f32 0xC0E00000#32 : Ideal .f32) = (-7 : EReal) := lit_neg_seven
  rw [e7, em7]
  unfold codeOf
  generalize hOf (row x0 b s) (gains x1) i.val = u
  generalize scaleOf (row x0 b s) (gains x1) = v
  rfl

theorem words (b : Fin 2) (s : Fin 128) (i : Fin 8192) :
    val_main_v171 (F := Ideal) x0 x1 (ix3 b s i) = Ideal.fptosi 32 (codeOf (row x0 b s) (gains x1) i.val) := by
  rw [val_main_v171_apply, clipped]
  generalize codeOf (row x0 b s) (gains x1) i.val = u
  rfl

/-- The token of a row of a result. -/
theorem tok0 (t : Fin 256) : t.val / 128 < 2 := by omega

theorem tok1 (t : Fin 256) : t.val % 128 < 128 := by omega

theorem idx228 (t : Fin 256) (i : Fin 8192) : idx_main_v228 (ix2 t i) = ix3 ⟨t.val / 128, tok0 t⟩ ⟨t.val % 128, tok1 t⟩ i := by
  funext a
  match a with
  | 0 => exact Fin.ext (by show (t.val * 8192 + i.val) / 1048576 = t.val / 128; omega)
  | 1 => exact Fin.ext (by show (t.val * 8192 + i.val) / 8192 % 128 = t.val % 128; omega)
  | 2 => exact Fin.ext (by show (t.val * 8192 + i.val) % 8192 = i.val; omega)

/-- A token's codes. -/
theorem codes (t : Fin 256) (i : Fin 8192) :
    val_main_v228 (F := Ideal) x0 x1 (ix2 t i)
      = Ideal.fptosi 8 (codeOf (row x0 ⟨t.val / 128, tok0 t⟩ ⟨t.val % 128, tok1 t⟩) (gains x1) i.val) := by
  rw [val_main_v228_apply, val_main_v227_apply, idx228, words, code_word]

end Cert.Proof.ReferenceIdeal

end
-- ==== Proof.FieldWord.lean ====
/- A two-bit field of a byte: as the reference decodes it, and what the precondition says of it. -/
module

public import Idealize.ShloMosaic.PureOps
public import Idealize.ShloMosaic.Lib.KernelVsHost
public import Mathlib.Tactic.IntervalCases

@[expose] public section

noncomputable section

namespace Cert.Proof

open Idealize.ShloMosaic

theorem field_word (f : ℕ) (hf : f < 4) (b : BitVec 8) :
    (IntOp.subi (IntOp.andi (IntOp.shrsi .host (b.setWidth 32) (BitVec.ofNat 32 (2 * f))) 3#32) 1#32).toInt = ((b.toNat / 4 ^ f % 4 : ℕ) : ℤ) - 1 := by
  unfold IntOp.subi IntOp.andi IntOp.shrsi
  have h : (BitVec.ofNat 32 (2 * f)).toNat < 32 := by rw [BitVec.toNat_ofNat]; omega
  rw [if_pos h]
  clear h
  revert b
  interval_cases f <;> decide +kernel

theorem field_ternary (f : ℕ) (hf : f < 4) (b : BitVec 8)
    (h : IntOp.andi (IntOp.andi (b.setWidth 32) (IntOp.shrsi .host (b.setWidth 32) 1#32)) 85#32 = 0#32) : b.toNat / 4 ^ f % 4 ≠ 3 := by
  unfold IntOp.andi IntOp.shrsi at h
  rw [if_pos (by decide)] at h
  revert b
  interval_cases f <;> decide +kernel

end Cert.Proof

end
-- ==== Proof.ReferenceIdealProduct.lean ====
/- The reference's product, in the terms of one token. -/
module

public import proofs.«01_k».proof.Proof.ReferenceIdealCodes
public import proofs.«01_k».proof.Proof.FieldWord

@[expose] public section

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic

variable (x0 : (⟨S2x128x8192, .bf16⟩ : BufTy).Contents (Elt Ideal)) (x1 : (⟨S8192, .f32⟩ : BufTy).Contents (Elt Ideal))
  (x2 : (⟨S3584x2048, .i8⟩ : BufTy).Contents (Elt Ideal)) (x3 : (⟨S1, .f32⟩ : BufTy).Contents (Elt Ideal))

/-- The weight of field `f` of a byte. -/
def wt (f : ℕ) (b : BitVec 8) : ℝ := ((b.toNat / 4 ^ f % 4 : ℕ) : ℝ) - 1

theorem wt_word (f : ℕ) (hf : f < 4) (b : BitVec 8) :
    FloatOps.sitofp (F := Ideal) .bf16 (IntOp.subi (IntOp.andi (IntOp.shrsi .host (b.setWidth 32) (BitVec.ofNat 32 (2 * f))) 3#32) 1#32) = ((wt f b : ℝ) : EReal) := by
  show (((IntOp.subi (IntOp.andi (IntOp.shrsi .host (b.setWidth 32) (BitVec.ofNat 32 (2 * f))) 3#32) 1#32).toInt : ℝ) : EReal) = _
  rw [field_word f hf b, wt]
  push_cast
  rfl

theorem code_num (b : Fin 2) (s : Fin 128) (i : Fin 8192) :
    FloatOps.sitofp (F := Ideal) .bf16 (val_main_v171 (F := Ideal) x0 x1 (ix3 b s i)) = codeOf (row x0 b s) (gains x1) i.val := by
  rw [words]
  exact code_back _ _ _

theorem weight0 (o : Fin 3584) (k : Fin 2048) : val_main_v179 (F := Ideal) x2 (ix2 o k) = ((wt 0 (x2 (ix2 o k)) : ℝ) : EReal) := by
  rw [val_main_v179_apply, val_main_v178_apply, val_main_v177_apply, val_main_v176_apply, val_main_v175_apply, val_main_v174_apply, val_main_v173_apply, val_main_v172_apply,
    val_main_c_apply, val_main_c_9_apply, val_main_c_10_apply]
  exact wt_word 0 (by omega) _

theorem part0 (b : Fin 2) (s : Fin 128) (o : Fin 3584) :
    val_main_v182 (F := Ideal) x0 x1 x2 (ix3 b s o)
      = ∑ k ∈ Finset.range 2048, codeOf (row x0 b s) (gains x1) (4 * k + 0) * ((if h : k < 2048 then wt 0 (x2 (ix2 o ⟨k, h⟩)) else 0 : ℝ) : EReal) := by
  rw [val_main_v182_apply, Finset.sum_range]
  refine Finset.sum_congr rfl fun k _ => ?_
  have e1 : lidx_main_v182 (ix3 b s o) k = ix3 b s k := funext fun a => match a with | 0 => rfl | 1 => rfl | 2 => rfl
  have e2 : ridx_main_v182 (ix3 b s o) k = ix2 o k := funext fun a => match a with | 0 => rfl | 1 => rfl
  have e3 : val_main_v180 (F := Ideal) x0 x1 (ix3 b s k) = val_main_v171 (F := Ideal) x0 x1 (ix3 b s ⟨4 * k.val + 0, by omega⟩) := by
    unfold val_main_v180 Host.slice
    refine congrArg (val_main_v171 (F := Ideal) x0 x1) (funext fun a => Fin.ext ?_)
    match a with
    | 0 => show 0 + 1 * b.val = b.val; omega
    | 1 => show 0 + 1 * s.val = s.val; omega
    | 2 => show 0 + 4 * k.val = 4 * k.val + 0; omega
  rw [e1, e2, weight0, val_main_v181_apply, e3, code_num, dif_pos k.isLt]

theorem weight1 (o : Fin 3584) (k : Fin 2048) : val_main_v190 (F := Ideal) x2 (ix2 o k) = ((wt 1 (x2 (ix2 o k)) : ℝ) : EReal) := by
  rw [val_main_v190_apply, val_main_v189_apply, val_main_v188_apply, val_main_v187_apply, val_main_v186_apply, val_main_v185_apply, val_main_v184_apply, val_main_v183_apply,
    val_main_c_11_apply, val_main_c_12_apply, val_main_c_13_apply]
  exact wt_word 1 (by omega) _

theorem part1 (b : Fin 2) (s : Fin 128) (o : Fin 3584) :
    val_main_v193 (F := Ideal) x0 x1 x2 (ix3 b s o)
      = ∑ k ∈ Finset.range 2048, codeOf (row x0 b s) (gains x1) (4 * k + 1) * ((if h : k < 2048 then wt 1 (x2 (ix2 o ⟨k, h⟩)) else 0 : ℝ) : EReal) := by
  rw [val_main_v193_apply, Finset.sum_range]
  refine Finset.sum_congr rfl fun k _ => ?_
  have e1 : lidx_main_v193 (ix3 b s o) k = ix3 b s k := funext fun a => match a with | 0 => rfl | 1 => rfl | 2 => rfl
  have e2 : ridx_main_v193 (ix3 b s o) k = ix2 o k := funext fun a => match a with | 0 => rfl | 1 => rfl
  have e3 : val_main_v191 (F := Ideal) x0 x1 (ix3 b s k) = val_main_v171 (F := Ideal) x0 x1 (ix3 b s ⟨4 * k.val + 1, by omega⟩) := by
    unfold val_main_v191 Host.slice
    refine congrArg (val_main_v171 (F := Ideal) x0 x1) (funext fun a => Fin.ext ?_)
    match a with
    | 0 => show 0 + 1 * b.val = b.val; omega
    | 1 => show 0 + 1 * s.val = s.val; omega
    | 2 => show 1 + 4 * k.val = 4 * k.val + 1; omega
  rw [e1, e2, weight1, val_main_v192_apply, e3, code_num, dif_pos k.isLt]

theorem weight2 (o : Fin 3584) (k : Fin 2048) : val_main_v202 (F := Ideal) x2 (ix2 o k) = ((wt 2 (x2 (ix2 o k)) : ℝ) : EReal) := by
  rw [val_main_v202_apply, val_main_v201_apply, val_main_v200_apply, val_main_v199_apply, val_main_v198_apply, val_main_v197_apply, val_main_v196_apply, val_main_v195_apply,
    val_main_c_14_apply, val_main_c_15_apply, val_main_c_16_apply]
  exact wt_word 2 (by omega) _

theorem part2 (b : Fin 2) (s : Fin 128) (o : Fin 3584) :
    val_main_v205 (F := Ideal) x0 x1 x2 (ix3 b s o)
      = ∑ k ∈ Finset.range 2048, codeOf (row x0 b s) (gains x1) (4 * k + 2) * ((if h : k < 2048 then wt 2 (x2 (ix2 o ⟨k, h⟩)) else 0 : ℝ) : EReal) := by
  rw [val_main_v205_apply, Finset.sum_range]
  refine Finset.sum_congr rfl fun k _ => ?_
  have e1 : lidx_main_v205 (ix3 b s o) k = ix3 b s k := funext fun a => match a with | 0 => rfl | 1 => rfl | 2 => rfl
  have e2 : ridx_main_v205 (ix3 b s o) k = ix2 o k := funext fun a => match a with | 0 => rfl | 1 => rfl
  have e3 : val_main_v203 (F := Ideal) x0 x1 (ix3 b s k) = val_main_v171 (F := Ideal) x0 x1 (ix3 b s ⟨4 * k.val + 2, by omega⟩) := by
    unfold val_main_v203 Host.slice
    refine congrArg (val_main_v171 (F := Ideal) x0 x1) (funext fun a => Fin.ext ?_)
    match a with
    | 0 => show 0 + 1 * b.val = b.val; omega
    | 1 => show 0 + 1 * s.val = s.val; omega
    | 2 => show 2 + 4 * k.val = 4 * k.val + 2; omega
  rw [e1, e2, weight2, val_main_v204_apply, e3, code_num, dif_pos k.isLt]

theorem weight3 (o : Fin 3584) (k : Fin 2048) : val_main_v214 (F := Ideal) x2 (ix2 o k) = ((wt 3 (x2 (ix2 o k)) : ℝ) : EReal) := by
  rw [val_main_v214_apply, val_main_v213_apply, val_main_v212_apply, val_main_v211_apply, val_main_v210_apply, val_main_v209_apply, val_main_v208_apply, val_main_v207_apply,
    val_main_c_17_apply, val_main_c_18_apply, val_main_c_19_apply]
  exact wt_word 3 (by omega) _

theorem part3 (b : Fin 2) (s : Fin 128) (o : Fin 3584) :
    val_main_v217 (F := Ideal) x0 x1 x2 (ix3 b s o)
      = ∑ k ∈ Finset.range 2048, codeOf (row x0 b s) (gains x1) (4 * k + 3) * ((if h : k < 2048 then wt 3 (x2 (ix2 o ⟨k, h⟩)) else 0 : ℝ) : EReal) := by
  rw [val_main_v217_apply, Finset.sum_range]
  refine Finset.sum_congr rfl fun k _ => ?_
  have e1 : lidx_main_v217 (ix3 b s o) k = ix3 b s k := funext fun a => match a with | 0 => rfl | 1 => rfl | 2 => rfl
  have e2 : ridx_main_v217 (ix3 b s o) k = ix2 o k := funext fun a => match a with | 0 => rfl | 1 => rfl
  have e3 : val_main_v215 (F := Ideal) x0 x1 (ix3 b s k) = val_main_v171 (F := Ideal) x0 x1 (ix3 b s ⟨4 * k.val + 3, by omega⟩) := by
    unfold val_main_v215 Host.slice
    refine congrArg (val_main_v171 (F := Ideal) x0 x1) (funext fun a => Fin.ext ?_)
    match a with
    | 0 => show 0 + 1 * b.val = b.val; omega
    | 1 => show 0 + 1 * s.val = s.val; omega
    | 2 => show 3 + 4 * k.val = 4 * k.val + 3; omega
  rw [e1, e2, weight3, val_main_v216_apply, e3, code_num, dif_pos k.isLt]

theorem idx219 (b : Fin 2) (s : Fin 128) (o : Fin 3584) : idx_main_v219 (idx_main_v220 (ix3 b s o)) = ix2 b s :=
  funext fun a => match a with | 0 => rfl | 1 => rfl

theorem idx226 (t : Fin 256) (o : Fin 3584) : idx_main_v226 (ix2 t o) = ix3 ⟨t.val / 128, tok0 t⟩ ⟨t.val % 128, tok1 t⟩ o := by
  funext a
  match a with
  | 0 => exact Fin.ext (by show (t.val * 3584 + o.val) / 458752 = t.val / 128; omega)
  | 1 => exact Fin.ext (by show (t.val * 3584 + o.val) / 3584 % 128 = t.val % 128; omega)
  | 2 => exact Fin.ext (by show (t.val * 3584 + o.val) % 3584 = o.val; omega)

/-- One of the four sums of the product. -/
def partOf (x g : ℕ → EReal) (w : ℕ → BitVec 8) (f : ℕ) : EReal :=
  ∑ k ∈ Finset.range 2048, codeOf x g (4 * k + f) * ((wt f (w k) : ℝ) : EReal)

/-- The bytes of an output. -/
def bytes (W : (⟨2, ![3584, 2048]⟩ : Shape).Idx → BitVec 8) (o : Fin 3584) (j : ℕ) : BitVec 8 := if h : j < 2048 then W (ix2 o ⟨j, h⟩) else 0

theorem part_of (x g : ℕ → EReal) (W : (⟨2, ![3584, 2048]⟩ : Shape).Idx → BitVec 8) (o : Fin 3584) (f : ℕ) :
    ∑ k ∈ Finset.range 2048, codeOf x g (4 * k + f) * ((if h : k < 2048 then wt f (W (ix2 o ⟨k, h⟩)) else 0 : ℝ) : EReal) = partOf x g (bytes W o) f := by
  refine Finset.sum_congr rfl fun k hk => ?_
  have hk := Finset.mem_range.mp hk
  rw [dif_pos hk, bytes, dif_pos hk]

/-- An output of a token. -/
theorem product (t : Fin 256) (o : Fin 3584) :
    val_main_v226 (F := Ideal) x0 x1 x2 x3 (ix2 t o)
      = (partOf (row x0 ⟨t.val / 128, tok0 t⟩ ⟨t.val % 128, tok1 t⟩) (gains x1) (bytes x2 o) 0
          + partOf (row x0 ⟨t.val / 128, tok0 t⟩ ⟨t.val % 128, tok1 t⟩) (gains x1) (bytes x2 o) 1
          + partOf (row x0 ⟨t.val / 128, tok0 t⟩ ⟨t.val % 128, tok1 t⟩) (gains x1) (bytes x2 o) 2
          + partOf (row x0 ⟨t.val / 128, tok0 t⟩ ⟨t.val % 128, tok1 t⟩) (gains x1) (bytes x2 o) 3)
        * scaleOf (row x0 ⟨t.val / 128, tok0 t⟩ ⟨t.val % 128, tok1 t⟩) (gains x1) * x3 (ix1 0) := by
  rw [val_main_v226_apply, idx226, val_main_v225_apply, val_main_v224_apply, val_main_v221_apply, val_main_v218_apply, val_main_v206_apply,
    val_main_v194_apply, part0, part1, part2, part3, val_main_v220_apply, val_main_v219_apply, idx219, scale, val_main_v223_apply,
    part_of, part_of, part_of, part_of]
  have hw : ∀ i, val_main_v222 (F := Ideal) x3 i = x3 (ix1 0) := by
    intro i
    unfold val_main_v222 shapeCast
    refine congrArg x3 (funext fun a => ?_)
    match a with
    | 0 => exact Subsingleton.elim (α := Fin 1) _ _
  rw [hw]
  generalize row x0 ⟨t.val / 128, tok0 t⟩ ⟨t.val % 128, tok1 t⟩ = x
  generalize gains x1 = g
  generalize scaleOf x g = sc
  generalize partOf x g (bytes x2 o) 0 = p0
  generalize partOf x g (bytes x2 o) 1 = p1
  generalize partOf x g (bytes x2 o) 2 = p2
  generalize partOf x g (bytes x2 o) 3 = p3
  rfl

end Cert.Proof.ReferenceIdeal

end
-- ==== Proof.ProductMath.lean ====
/- The product's sum in the kernel's order is the sum in the reference's. -/
module

public import Mathlib.Data.EReal.Operations
public import Mathlib.Tactic.Ring
public import Mathlib.Algebra.BigOperators.Intervals
public import Mathlib.Algebra.BigOperators.Ring.Finset

@[expose] public section

namespace Cert.Proof

theorem coe_sum' {ι : Type} (s : Finset ι) (f : ι → ℝ) : (((∑ i ∈ s, f i : ℝ)) : EReal) = ∑ i ∈ s, ((f i : ℝ) : EReal) := by
  induction s using Finset.cons_induction with
  | empty => rfl
  | cons a s ha ih => rw [Finset.sum_cons, Finset.sum_cons, EReal.coe_add, ih]

theorem sum_blocks (g : ℕ → ℝ) (n : ℕ) : ∑ k ∈ Finset.range (256 * n), g k = ∑ m ∈ Finset.range n, ∑ x ∈ Finset.range 256, g (256 * m + x) := by
  induction n with
  | zero => rfl
  | succ n ih => rw [Nat.mul_succ, Finset.sum_range_add, ih, Finset.sum_range_succ _ n]

theorem sum_fields (F : ℕ → ℕ → ℝ) :
    (∑ n ∈ Finset.range 32, ∑ x ∈ Finset.range 256, 2 * F (n % 4) (256 * (n / 4) + x)) * (1 / 2)
      = ∑ k ∈ Finset.range 2048, F 0 k + ∑ k ∈ Finset.range 2048, F 1 k + ∑ k ∈ Finset.range 2048, F 2 k + ∑ k ∈ Finset.range 2048, F 3 k := by
  have hb : ∀ f, ∑ k ∈ Finset.range 2048, F f k = ∑ m ∈ Finset.range 8, ∑ x ∈ Finset.range 256, F f (256 * m + x) := fun f => sum_blocks (F f) 8
  rw [hb, hb, hb, hb]
  simp only [← Finset.mul_sum]
  generalize hG : (fun f m => ∑ x ∈ Finset.range 256, F f (256 * m + x)) = G
  have e : ∀ f m, ∑ x ∈ Finset.range 256, F f (256 * m + x) = G f m := fun f m => by rw [← hG]
  simp only [e]
  simp only [Finset.sum_range_succ, Finset.sum_range_zero]
  norm_num
  ring

end Cert.Proof
-- ==== Proof.Agree.lean ====
/- Token by token, the kernel's results are the reference's. -/
module

public import proofs.«01_k».proof.Proof.KernelIdealValue
public import proofs.«01_k».proof.Proof.ReferenceIdealProduct
public import proofs.«01_k».proof.Proof.ProductMath

@[expose] public section

noncomputable section

namespace Cert.Proof

open Cert.Proof.KernelIdeal Cert.Proof.ReferenceIdeal
open Idealize.ShloMosaic Idealize.ShloMosaic.TcCoe Idealize.ShloMosaic.Tactic

theorem rows_x (A : (⟨3, ![2, 128, 8192]⟩ : Shape).Idx → EReal) (t : Fin 256) :
    xrow (Value.rowsX A) t = ReferenceIdeal.row A ⟨t.val / 128, tok0 t⟩ ⟨t.val % 128, tok1 t⟩ := by
  funext j
  unfold xrow ReferenceIdeal.row
  split <;> rfl

theorem rows_g (G : (⟨1, ![8192]⟩ : Shape).Idx → EReal) : grow (Value.rowsG G) = gains G := by
  funext j
  unfold grow gains
  split
  · refine congrArg G (funext fun a => ?_)
    match a with
    | 0 => exact Fin.ext (by show 256 * (j / 256) + j % 256 = j; omega)
  · rfl

/-- The kernel's 32 partial products, halved, are the reference's four sums. -/
theorem sums (x g : ℕ → EReal) (W : (⟨2, ![3584, 2048]⟩ : Shape).Idx → BitVec 8) (o : Fin 3584) (t : Fin 256)
    (Q : (⟨3, ![32, 256, 256]⟩ : Shape).Idx → EReal)
    (hQ : ∀ n k, n < 32 → k < 256 → box Q n k t = codeOf x g (256 * (4 * (n / 4) + k / 64) + (4 * (k % 64) + n % 4)))
    (hW : ∀ j f, f < 4 → (bytes W o j).toNat / 4 ^ f % 4 ≠ 3) :
    (∑ n ∈ Finset.range 32, dotOf W Q o t n) * Ideal.ofBits .f32 0x3F000000#32
      = partOf x g (bytes W o) 0 + partOf x g (bytes W o) 1 + partOf x g (bytes W o) 2 + partOf x g (bytes W o) 3 := by
  choose q hq1 hq2 hq using code_int x g
  have hb : ∀ j, wat W o j = bytes W o j := fun j => rfl
  have hp : ∀ f, partOf x g (bytes W o) f = ((∑ k ∈ Finset.range 2048, wt f (bytes W o k) * (q (4 * k + f) : ℝ) : ℝ) : EReal) := by
    intro f
    unfold partOf
    rw [coe_sum']
    exact Finset.sum_congr rfl fun k _ => by rw [hq, ← EReal.coe_mul, mul_comm]
  have hd : ∀ n ∈ Finset.range 32, dotOf W Q o t n
      = ((∑ k ∈ Finset.range 256, 2 * (wt (n % 4) (bytes W o (256 * (n / 4) + k)) * (q (4 * (256 * (n / 4) + k) + n % 4) : ℝ)) : ℝ) : EReal) := by
    intro n hn
    have hn := Finset.mem_range.mp hn
    unfold dotOf
    rw [coe_sum', Finset.sum_range]
    refine Finset.sum_congr rfl fun k _ => ?_
    rw [hQ n k.val hn k.isLt, hb, wOf_field (n % 4) (by omega) _ (hW _ _ (by omega)), hq, ← EReal.coe_mul,
      show 256 * (4 * (n / 4) + k.val / 64) + (4 * (k.val % 64) + n % 4) = 4 * (256 * (n / 4) + k.val) + n % 4 by omega]
    refine congrArg _ ?_
    unfold wt
    ring
  rw [Finset.sum_congr rfl hd, ← coe_sum', lit_half, ← EReal.coe_mul, hp, hp, hp, hp, ← EReal.coe_add, ← EReal.coe_add, ← EReal.coe_add]
  exact congrArg _ (sum_fields fun f k => wt f (bytes W o k) * (q (4 * k + f) : ℝ))

variable (x0 : (⟨Cert.ReferenceIdeal.S2x128x8192, .bf16⟩ : BufTy).Contents (Elt Ideal)) (x1 : (⟨Cert.ReferenceIdeal.S8192, .f32⟩ : BufTy).Contents (Elt Ideal))
  (x2 : (⟨Cert.ReferenceIdeal.S3584x2048, .i8⟩ : BufTy).Contents (Elt Ideal)) (x3 : (⟨Cert.ReferenceIdeal.S1, .f32⟩ : BufTy).Contents (Elt Ideal))

theorem scales_agree : scalesV (Value.rowsX x0) (Value.rowsG x1) = Cert.ReferenceIdeal.Read.val_main_v165 (F := Ideal) x0 x1 := by
  funext y
  obtain ⟨b, s, rfl⟩ : ∃ (b : Fin 2) (s : Fin 128), y = ix2 b s := ⟨y 0, y 1, funext fun a => match a with | 0 => rfl | 1 => rfl⟩
  rw [scale]
  unfold scalesV
  rw [rows_x, rows_g]
  have h0 : (⟨(128 * b.val + s.val) / 128, by omega⟩ : Fin 2) = b := Fin.ext (by show (128 * b.val + s.val) / 128 = b.val; omega)
  have h1 : (⟨(128 * b.val + s.val) % 128, by omega⟩ : Fin 128) = s := Fin.ext (by show (128 * b.val + s.val) % 128 = s.val; omega)
  exact congrArg (fun z => scaleOf z (gains x1)) (congrArg₂ (ReferenceIdeal.row x0) h0 h1)

theorem codes_agree : codesV (Value.rowsX x0) (Value.rowsG x1) = Cert.ReferenceIdeal.Read.val_main_v228 (F := Ideal) x0 x1 := by
  funext y
  obtain ⟨t, i, rfl⟩ : ∃ (t : Fin 256) (i : Fin 8192), y = ix2 t i := ⟨y 0, y 1, funext fun a => match a with | 0 => rfl | 1 => rfl⟩
  rw [codes, ← rows_x, ← rows_g]
  rfl

theorem product_agree (hW : ∀ o j f, f < 4 → (bytes x2 o j).toNat / 4 ^ f % 4 ≠ 3) :
    yV (Value.rowsX x0) (Value.rowsG x1) x2 x3 = Cert.ReferenceIdeal.Read.val_main_v226 (F := Ideal) x0 x1 x2 x3 := by
  funext y
  obtain ⟨t, o, rfl⟩ : ∃ (t : Fin 256) (o : Fin 3584), y = ix2 t o := ⟨y 0, y 1, funext fun a => match a with | 0 => rfl | 1 => rfl⟩
  rw [product, ← rows_x, ← rows_g]
  unfold yV yOf
  have h := sums (xrow (Value.rowsX x0) t) (grow (Value.rowsG x1)) x2 o t (packV (Value.rowsX x0) (Value.rowsG x1))
    (fun n k hn hk => by rw [← box_of _ n k t hn hk]; rfl) (hW o)
  rw [← h]
  rfl

end Cert.Proof

end
-- ==== Proof.Algebraic.lean ====
/- On packed weights whose two-bit fields are all ternary, the kernel's three results are the reference's. -/
module

public import proofs.«01_k».proof.Defs
public import proofs.«01_k».proof.Proof.Gen.ReferenceIdeal.Run
public import proofs.«01_k».proof.Proof.Agree
public import proofs.«01_k».proof.Proof.FieldWord
public import Idealize.ShloMosaic.Lib.ReduceAll

@[expose] public section

noncomputable section

namespace Cert.Proof

open Cert.Proof.KernelIdeal Cert.Proof.ReferenceIdeal
open Idealize.ShloMosaic Idealize.ShloMosaic.TcCoe Idealize.SL.Sem

instance : Subsingleton (Cert.Pre_ternary.S_ : Shape).Idx := ⟨fun a b => funext fun i => i.elim0⟩

/-- The precondition, read at one byte and one of its four fields: no field is 3. -/
theorem ternary_field [Cert.Pre_ternary.Facts] (x0 : FVec Ideal Cert.Pre_ternary.S2x128x8192 .bf16) (x1 : FVec Ideal Cert.Pre_ternary.S8192 .f32)
    (x2 : IVec Cert.Pre_ternary.S3584x2048 8) (x3 : FVec Ideal Cert.Pre_ternary.S1 .f32)
    (h : Cert.Pre_ternary.fn (F := Ideal) x0 x1 x2 x3 = fun _ => 1#1) (i : Cert.Pre_ternary.S3584x2048.Idx) (f : ℕ) (hf : f < 4) :
    (x2 i).toNat / 4 ^ f % 4 ≠ 3 := by
  dsimp only [Cert.Pre_ternary.fn] at h
  have e := Host.reduce_andi_all _ _ _ _ (fun a => a.elim0) (congrFun h (fun a => a.elim0)) i
  refine field_ternary f hf (x2 i) ?_
  by_contra hne
  have e' : BitVec.ofBool (IntOp.andi (IntOp.andi ((x2 i).setWidth 32) (IntOp.shrsi .host ((x2 i).setWidth 32) 1#32)) 85#32 == 0#32) = 1#1 := e
  rw [beq_eq_false_iff_ne.mpr hne] at e'
  exact absurd e' (by decide)

/-- The same of the weight row the sums run over: past the stored bytes it is zero. -/
theorem ternary_bytes [Cert.Pre_ternary.Facts] (x0 : FVec Ideal Cert.Pre_ternary.S2x128x8192 .bf16) (x1 : FVec Ideal Cert.Pre_ternary.S8192 .f32)
    (x2 : IVec Cert.Pre_ternary.S3584x2048 8) (x3 : FVec Ideal Cert.Pre_ternary.S1 .f32)
    (h : Cert.Pre_ternary.fn (F := Ideal) x0 x1 x2 x3 = fun _ => 1#1) (o j f) (hf : f < 4) :
    (bytes x2 o j).toNat / 4 ^ f % 4 ≠ 3 := by
  unfold bytes
  split
  · exact ternary_field x0 x1 x2 x3 h _ f hf
  · simp

/-- The kernel's run: its three results and its unchanged arguments. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        r.2.mem (c.tc.loc Cert.KernelIdeal.main_v2_0) = (Value.dats m 0 c).arrAt 4 Cert.KernelIdeal.cfg0.N
        ∧ r.2.mem (c.tc.loc Cert.KernelIdeal.main_v2_1) = (Value.dats m 0 c).arrAt 5 Cert.KernelIdeal.cfg0.N
        ∧ r.2.mem (c.tc.loc Cert.KernelIdeal.main_v2_2) = (Value.dats m 0 c).arrAt 6 Cert.KernelIdeal.cfg0.N
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3) :=
  (θ_run _ _ _).mono (fun _ h c => ⟨Pipeline.FramePost.out_eq h.1 c 4, Pipeline.FramePost.out_eq h.1 c 5,
      Pipeline.FramePost.out_eq h.1 c 6, h.2 c⟩)
    (θ_run_and (Value.run_main m g) (Cert.KernelIdeal.Gen.frame_of m g (Value.dats m) (Value.A_eq m) (Value.run_main m g)))

theorem algebraic [Cert.Pre_ternary.Facts] : Cert.algebraic_KernelIdeal_ReferenceIdeal_pre_ternary
    (hKernelIdeal := Cert.KernelIdeal.Gen.facts) (hReferenceIdeal := Cert.ReferenceIdeal.Gen.facts) := by
  intro m g m' g' hpre hagree
  refine ⟨fun c => (Value.dats m 0 c).arrAt 4 Cert.KernelIdeal.cfg0.N, fun c => (Value.dats m 0 c).arrAt 5 Cert.KernelIdeal.cfg0.N,
    fun c => (Value.dats m 0 c).arrAt 6 Cert.KernelIdeal.cfg0.N, kernel_run m g, ?_⟩
  refine (θ_run _ _ _).mono (fun _ h c => ?_) (Cert.ReferenceIdeal.Value.run (F := Ideal) m' g')
  obtain ⟨h0, h1, h2, ha⟩ := h c
  obtain ⟨a0, a1, a2, a3⟩ := hagree c
  have hW := ternary_bytes _ _ _ _ (hpre c)
  refine ⟨?_, ?_, ?_, ha⟩
  · refine Eq.trans ?_ (Value.final4 m c).symm
    refine h0.trans ((Cert.ReferenceIdeal.Read.val_main_v226_eq _).trans (Eq.trans ?_ (product_agree _ _ _ _ hW).symm))
    rw [StableHlo.launchContents_devRef, StableHlo.launchContents_devRef, StableHlo.launchContents_devRef, StableHlo.launchContents_devRef,
      a0, a1, a2, a3]
  · refine Eq.trans ?_ (Value.final5 m c).symm
    refine h1.trans ((Cert.ReferenceIdeal.Read.val_main_v228_eq _).trans (Eq.trans ?_ (codes_agree _ _).symm))
    rw [StableHlo.launchContents_devRef, StableHlo.launchContents_devRef, a0, a1]
  · refine Eq.trans ?_ (Value.final6 m c).symm
    refine h2.trans ((Cert.ReferenceIdeal.Read.val_main_v165_eq _).trans (Eq.trans ?_ (scales_agree _ _).symm))
    rw [StableHlo.launchContents_devRef, StableHlo.launchContents_devRef, a0, a1]

end Cert.Proof

end
-- ==== Proof.lean ====
/- The certificate: the frames of the kernel and of the reference, the preservation claim, and the equality of all three
   results over the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ternary
public import proofs.«01_k».proof.Proof.Gen.ReferenceIdeal.Run
public import proofs.«01_k».proof.Proof.KernelFrame
public import proofs.«01_k».proof.Proof.KernelIdealFrame
public import proofs.«01_k».proof.Proof.Algebraic

@[expose] public section

noncomputable section

namespace Cert.Proof

open Idealize.ShloMosaic Idealize.ShloMosaic.TcCoe Idealize.SL.Sem

theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_ternary.Gen.facts,
    fun m ρ _ => Cert.Proof.Kernel.frame m ρ,
    fun m ρ _ => Cert.Proof.KernelIdeal.frame m ρ,
    fun m ρ _ => Cert.Proof.KernelIdeal.frame m ρ,
    frame_reference,
    fun m ρ _ => frame_reference m ρ trivial,
    trivial,
    algebraic⟩

end Cert.Proof

end
